-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![4096, 512]⟩ ⟨2, ![32768, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 32768#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_range_ReferenceIdeal.lean ====
abbrev S512 : Shape := ⟨1, ![512]⟩
abbrev S32768x512 : Shape := ⟨2, ![32768, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S32768x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 32768#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x1 : Shape := ⟨2, ![512, 1]⟩
abbrev S512x512 : Shape := ⟨2, ![512, 512]⟩
abbrev S7x64x512 : Shape := ⟨3, ![7, 64, 512]⟩
abbrev S64x512 : Shape := ⟨2, ![64, 512]⟩
abbrev S7 : Shape := ⟨1, ![7]⟩
abbrev S_ : Shape := ⟨0, ![]⟩
abbrev S64x1 : Shape := ⟨2, ![64, 1]⟩
abbrev S64x4096 : Shape := ⟨2, ![64, 4096]⟩
abbrev S1 : Shape := ⟨1, ![1]⟩
abbrev S1x64x512 : Shape := ⟨3, ![1, 64, 512]⟩

abbrev nBuf : Space → Nat
  | .hbm => 4
  | .vmem => 7
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S512x1, .i32⟩
  | .hbm, ⟨3, _⟩ => ⟨S512x512, .f32⟩
  | .local _ .vmem, ⟨0, _⟩ => ⟨S512x1, .i32⟩
  | .local _ .vmem, ⟨1, _⟩ => ⟨S4096x512, .bf16⟩
  | .local _ .vmem, ⟨2, _⟩ => ⟨S512x512, .f32⟩
  | .local _ .vmem, ⟨3, _⟩ => ⟨S512x512, .bf16⟩
  | .local _ .vmem, ⟨4, _⟩ => ⟨S7x64x512, .bf16⟩
  | .local _ .vmem, ⟨5, _⟩ => ⟨S64x512, .bf16⟩
  | .local _ .vmem, ⟨6, _⟩ => ⟨S7x64x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.xori v2 c1_i32_23
  let c64_i32 : BitVec 32 := 64#32
  let v29 : BitVec 32 := Scalar.muli v28 c64_i32
  let v30 : Index := Scalar.indexCast v29
  let c0_24 : Index := 0#32
  ![v30.toNat, 0]
def k0_off2 (d0 : Dev nD) (c1_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.xori v2 c1_i32_23
  let c64_i32_25 : BitVec 32 := 64#32
  let v43 : BitVec 32 := Scalar.muli v28 c64_i32_25
  let v44 : Index := Scalar.indexCast v43
  let c0_26 : Index := 0#32
  ![v44.toNat, 0]
def k0_off3 (d0 : Dev nD) (c1_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.xori v2 c1_i32_23
  let c64_i32_27 : BitVec 32 := 64#32
  let v48 : BitVec 32 := Scalar.muli v28 c64_i32_27
  let c0_i32_35 : BitVec 32 := 0#32
  ![v48.toNat, 0]
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v28 : BitVec 32 := Scalar.xori v2 c1_i32_23
  let c1_i32_31 : BitVec 32 := 1#32
  let v49 : BitVec 32 := Scalar.muli v28 c1_i32_31
  let v50 : BitVec 32 := Scalar.addi c0_i32_32 v49
  v50.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v58 : BitVec 32 := Scalar.xori v2 c2_i32_36
  let c1_i32_46 : BitVec 32 := 1#32
  let v79 : BitVec 32 := Scalar.muli v58 c1_i32_46
  let v80 : BitVec 32 := Scalar.addi c0_i32_47 v79
  v80.toNat
def k0_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_51 : BitVec 32 := 3#32
  let v88 : BitVec 32 := Scalar.xori v2 c3_i32_51
  let c1_i32_61 : BitVec 32 := 1#32
  let v109 : BitVec 32 := Scalar.muli v88 c1_i32_61
  let v110 : BitVec 32 := Scalar.addi c0_i32_62 v109
  v110.toNat
def k0_dev11 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v118 : BitVec 32 := Scalar.xori v2 c4_i32_66
  let c1_i32_76 : BitVec 32 := 1#32
  let v139 : BitVec 32 := Scalar.muli v118 c1_i32_76
  let v140 : BitVec 32 := Scalar.addi c0_i32_77 v139
  v140.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_81 : BitVec 32 := 5#32
  let v148 : BitVec 32 := Scalar.xori v2 c5_i32_81
  let c1_i32_91 : BitVec 32 := 1#32
  let v169 : BitVec 32 := Scalar.muli v148 c1_i32_91
  let v170 : BitVec 32 := Scalar.addi c0_i32_92 v169
  v170.toNat
def k0_dev13 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v178 : BitVec 32 := Scalar.xori v2 c6_i32_96
  let c1_i32_106 : BitVec 32 := 1#32
  let v199 : BitVec 32 := Scalar.muli v178 c1_i32_106
  let v200 : BitVec 32 := Scalar.addi c0_i32_107 v199
  v200.toNat
def k0_dev14 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v208 : BitVec 32 := Scalar.xori v2 c7_i32_111
  let c1_i32_121 : BitVec 32 := 1#32
  let v229 : BitVec 32 := Scalar.muli v208 c1_i32_121
  let v230 : BitVec 32 := Scalar.addi c0_i32_122 v229
  v230.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_126 : BitVec 32 := 64#32
  let v238 : BitVec 32 := Scalar.muli v2 c64_i32_126
  let v239 : Index := Scalar.indexCast v238
  let c0_127 : Index := 0#32
  ![v239.toNat, 0]
def k0_dev15 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_251 : BitVec 32 := 1#32
  let v360 : BitVec 32 := Scalar.xori v2 c1_i32_251
  let c1_i32_255 : BitVec 32 := 1#32
  let v361 : BitVec 32 := Scalar.muli v360 c1_i32_255
  let v362 : BitVec 32 := Scalar.addi c0_i32_256 v361
  v362.toNat
def k0_dev16 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_259 : BitVec 32 := 2#32
  let v369 : BitVec 32 := Scalar.xori v2 c2_i32_259
  let c1_i32_263 : BitVec 32 := 1#32
  let v370 : BitVec 32 := Scalar.muli v369 c1_i32_263
  let v371 : BitVec 32 := Scalar.addi c0_i32_264 v370
  v371.toNat
def k0_dev17 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_267 : BitVec 32 := 3#32
  let v378 : BitVec 32 := Scalar.xori v2 c3_i32_267
  let c1_i32_271 : BitVec 32 := 1#32
  let v379 : BitVec 32 := Scalar.muli v378 c1_i32_271
  let v380 : BitVec 32 := Scalar.addi c0_i32_272 v379
  v380.toNat
def k0_dev18 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_275 : BitVec 32 := 4#32
  let v387 : BitVec 32 := Scalar.xori v2 c4_i32_275
  let c1_i32_279 : BitVec 32 := 1#32
  let v388 : BitVec 32 := Scalar.muli v387 c1_i32_279
  let v389 : BitVec 32 := Scalar.addi c0_i32_280 v388
  v389.toNat
def k0_dev19 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_283 : BitVec 32 := 5#32
  let v396 : BitVec 32 := Scalar.xori v2 c5_i32_283
  let c1_i32_287 : BitVec 32 := 1#32
  let v397 : BitVec 32 := Scalar.muli v396 c1_i32_287
  let v398 : BitVec 32 := Scalar.addi c0_i32_288 v397
  v398.toNat
def k0_dev20 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_291 : BitVec 32 := 6#32
  let v405 : BitVec 32 := Scalar.xori v2 c6_i32_291
  let c1_i32_295 : BitVec 32 := 1#32
  let v406 : BitVec 32 := Scalar.muli v405 c1_i32_295
  let v407 : BitVec 32 := Scalar.addi c0_i32_296 v406
  v407.toNat
def k0_dev21 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_299 : BitVec 32 := 7#32
  let v414 : BitVec 32 := Scalar.xori v2 c7_i32_299
  let c1_i32_303 : BitVec 32 := 1#32
  let v415 : BitVec 32 := Scalar.muli v414 c1_i32_303
  let v416 : BitVec 32 := Scalar.addi c0_i32_304 v415
  v416.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_307 : BitVec 32 := 64#32
  let v424 : BitVec 32 := Scalar.muli v2 c64_i32_307
  let v425 : Index := Scalar.indexCast v424
  let c0_308 : Index := 0#32
  ![v425.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S32768x512 : Shape := ⟨2, ![32768, 512]⟩
abbrev S_ : Shape := ⟨0, ![]⟩
abbrev S512x1 : Shape := ⟨2, ![512, 1]⟩
abbrev S512x512 : Shape := ⟨2, ![512, 512]⟩

abbrev nBuf : Space → Nat
  | .hbm => 12
  | .vmem => 0
  | .smem => 0
  | _ => 0

abbrev bufTy : (tb : Table) → Fin (tcTables nBuf tb) → BufTy
  | .hbm, ⟨0, _⟩ => ⟨S512, .i32⟩
  | .hbm, ⟨1, _⟩ => ⟨S32768x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Proto.lean ====
/-
# The protocol of the eight devices

Every device owns one block of 4096 rows of the table. The output's 512 rows are cut in eight blocks of 64. Device `c`
computes for every block `p` its contribution to that block (the rows of the table it owns, zero for the others), sends the
contribution to block `p` to device `p` (`p = c xor k`, `k = 1..7`), sums the eight contributions to its own block, and sends
the sum to the other seven devices.

The cells: on every device one barrier cell with seven duties of one unit (one per peer), and four families of seven DMA
cells with one duty each: the send and the receive cells of the first exchange (families 0 and 1), those of the second
(families 2 and 3). All duties lie in round 0. What a duty hands over:

* barrier, duty `j`: the peer's two landing slots `j`, at any contents, and that its two receive cells `j` are open;
* family 0 (send): the source block of the copy, back;
* family 1 (receive): the landing slot holding the peer's contribution;
* family 2 (send): one of eight shares of the buffer that holds the sum;
* family 3 (receive): the landing slot holding the peer's sum.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Rounds.Family
public import Idealize.ShloMosaic.Lib.Memref
public import Idealize.ShloMosaic.Lib.ShareLeaves
public import Idealize.ShloMosaic.Lib.Ring.FamCut
public import Idealize.ShloMosaic.Lib.Tactic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the exchange's, with seven duty names -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers, semaphores, cells -/

/-- The `j`-th peer of device `c`: `c xor (j + 1)`. -/
def pr (c : Dev nD) (j : Fin 7) : Dev nD :=
  ⟨c.val ^^^ (j.val + 1), Nat.xor_lt_two_pow (n := 3) c.isLt (by have := j.isLt; omega)⟩

theorem pr_pr (c : Dev nD) (j : Fin 7) : pr (pr c j) j = c := by revert c j; decide
theorem pr_ne (c : Dev nD) (j : Fin 7) : pr c j ≠ c := by revert c j; decide
theorem pr_inj (c : Dev nD) {j j' : Fin 7} (h : pr c j = pr c j') : j = j' := by revert c j j'; decide
/-- Exchanging the `j`-th peers. -/
def swap (j : Fin 7) : Dev nD ≃ Dev nD := ⟨fun c => pr c j, fun c => pr c j, fun c => pr_pr c j, fun c => pr_pr c j⟩
/-- Every device is oneself or one of one's peers. -/
theorem eq_or_pr (c p : Dev nD) : p = c ∨ ∃ j, p = pr c j := by revert c p; decide

/-- The barrier semaphore. -/
abbrev barS : Sem sig := (SemArray.scalar (sig.barrier 0 rfl) : Sems sig S_).sem
/-- The `j`-th DMA semaphore of family `q`. -/
def dq (q : Fin 4) (j : Fin 7) : DmaSem sig := ⟨3 + 7 * q.val + j.val, by have := q.isLt; have := j.isLt; show _ < 31; omega⟩
/-- Which of the exchange's semaphores a DMA semaphore is. -/
def dkind (x : DmaSem sig) : Option (Fin 4 × Fin 7) :=
  if h : 3 ≤ x.val then some (⟨(x.val - 3) / 7, by have : x.val < 31 := x.isLt; omega⟩, ⟨(x.val - 3) % 7, Nat.mod_lt _ (by decide)⟩) else none
theorem dkind_dq (q : Fin 4) (j : Fin 7) : dkind (dq q j) = some (q, j) := by revert q j; decide
theorem dq_inj {q q' : Fin 4} {j j' : Fin 7} (h : dq q j = dq q' j') : q = q' ∧ j = j' := by
  have := congrArg dkind h
  rw [dkind_dq, dkind_dq] at this
  exact ⟨congrArg Prod.fst (Option.some.inj this), congrArg Prod.snd (Option.some.inj this)⟩

abbrev barC (c : Dev nD) : GSem nD τ sig := ((c : Thread nD τ), .reg barS)
abbrev dC (q : Fin 4) (c : Dev nD) (j : Fin 7) : GSem nD τ sig := ((c : Thread nD τ), .dma (dq q j))

/-! ## The memrefs, by block and by slot -/

theorem inb_rows (p : Dev nD) : ∀ a, (![64 * p.val, 0] : Fin 2 → ℕ) a + S64x512.size a ≤ S512x512.size a := by revert p; decide
theorem inb_ids (p : Dev nD) : ∀ a, (![64 * p.val, 0] : Fin 2 → ℕ) a + S64x1.size a ≤ S512x1.size a := by revert p; decide
theorem inb_slot (j : Fin 7) : ∀ a, (![j.val, 0, 0] : Fin 3 → ℕ) a + S1x64x512.size a ≤ S7x64x512.size a := by revert j; decide

/-- The rows of block `p`, of a 512×512 buffer. -/
abbrev rowR (p : Dev nD) : Rect S512x512 := Rect.unit (s := S512x512) ![64 * p.val, 0] S64x512.size (inb_rows p)
/-- The ids of block `p`. -/
abbrev idR (p : Dev nD) : Rect S512x1 := Rect.unit (s := S512x1) ![64 * p.val, 0] S64x1.size (inb_ids p)
/-- The `j`-th slot of a landing buffer. -/
abbrev slotR (j : Fin 7) : Rect S7x64x512 := Rect.unit (s := S7x64x512) ![j.val, 0, 0] S1x64x512.size (inb_slot j)

abbrev idM : Memref sig .tc .vmem S512x1 .i32 := Memref.whole cc0_stg0_0
abbrev tabM : Memref sig .tc .vmem S4096x512 .bf16 := Memref.whole cc0_stg1_0
abbrev outM : Memref sig .tc .vmem S512x512 .f32 := Memref.whole cc0_stg2_0
abbrev parM : Memref sig .tc .vmem S512x512 .bf16 := Memref.whole cc0_scratch0
abbrev ra3M : Memref sig .tc .vmem S7x64x512 .bf16 := Memref.whole cc0_scratch1
abbrev redM : Memref sig .tc .vmem S64x512 .bf16 := Memref.whole cc0_scratch2
abbrev rb3M : Memref sig .tc .vmem S7x64x512 .bf16 := Memref.whole cc0_scratch3

/-- Block `p` of the contributions buffer. -/
def pcM (p : Dev nD) : Memref sig .tc .vmem S64x512 .bf16 := parM.slice (rowR p) (fun _ => rfl)
/-- Block `p` of the output's staging buffer. -/
def ocM (p : Dev nD) : Memref sig .tc .vmem S64x512 .f32 := outM.slice (rowR p) (fun _ => rfl)
/-- Slot `j` of the first exchange's landing buffer. -/
def raM (j : Fin 7) : Memref sig .tc .vmem S64x512 .bf16 := (ra3M.slice (slotR j) (fun _ => rfl)).squeeze S64x512 squeezes_S1x64x512_S64x512
/-- Slot `j` of the second exchange's landing buffer. -/
def rbM (j : Fin 7) : Memref sig .tc .vmem S64x512 .bf16 := (rb3M.slice (slotR j) (fun _ => rfl)).squeeze S64x512 squeezes_S1x64x512_S64x512

/-- What a copy of one block adds to the two cells it completes on. -/
abbrev N : ℕ := redM.view.dmaCredit
theorem N_pos : 0 < N := View.dmaCredit_pos _ (by decide)
theorem credit_ra (j : Fin 7) : (raM j).view.dmaCredit = N := rfl
theorem credit_rb (j : Fin 7) : (rbM j).view.dmaCredit = N := rfl
theorem credit_pc (p : Dev nD) : (pcM p).view.dmaCredit = N := rfl

/-! ## The values -/

variable (ids : Dev nD → Vec F S512x1 .i32) (tab : Dev nD → Vec F S4096x512 .bf16)

/-- The device's number as the kernel computes it. -/
abbrev word (c : Dev nD) : BitVec 32 := Scalar.remsi (Scalar.divsi (Dev.word c) 1#32) 8#32
/-- The ids of block `p`. -/
def rowsOf (x : Vec F S512x1 .i32) (p : Dev nD) : Vec F S64x1 .i32 := idM.view.readAt (Elt F) (idR p).toLoadRect x
/-- Device `c`'s contribution to block `p`. -/
def pieceV (c p : Dev nD) : FVec F S64x512 .bf16 :=
  k0_pay4 (k0_pay2 (tab c)) (Scalar.muli (word c) 4096#32) (rowsOf (ids c) p)
/-- The number of the table's first row that device `c` holds. -/
abbrev base (c : Dev nD) : BitVec 32 := Scalar.muli (word c) 4096#32
/-- Device `c`'s contribution to its own block, as the kernel accumulates from it. -/
abbrev ownV (c : Dev nD) : FVec F S64x512 .bf16 :=
  k0_pay11 (k0_pay2 (tab c)) (Scalar.muli (word c) 4096#32) (rowsOf (ids c) c)
/-- A block as loaded from a landing buffer, one slot of it. -/
def up (X : S64x512.Idx → Elt F .bf16) : Vec F S1x64x512 .bf16 :=
  fun i => X ((Shape.reshapeEquiv (Shape.Squeezes.numel_eq squeezes_S1x64x512_S64x512)).symm i)
/-- What arrives at device `c` in slot `j` of the first exchange. -/
def inV (c : Dev nD) (j : Fin 7) : Vec F S1x64x512 .bf16 := up (pieceV ids tab (pr c j) c)
/-- The running sum after slots 0; 0..2; 0..4; 0..5. -/
abbrev acc0 (c : Dev nD) : FVec F S64x512 .bf16 := k0_pay12 (ownV ids tab c) (inV ids tab c 0)
abbrev acc2 (c : Dev nD) : FVec F S64x512 .bf16 := k0_pay13 (acc0 ids tab c) (inV ids tab c 1) (inV ids tab c 2)
abbrev acc4 (c : Dev nD) : FVec F S64x512 .bf16 := k0_pay14 (acc2 ids tab c) (inV ids tab c 3) (inV ids tab c 4)
abbrev acc5 (c : Dev nD) : FVec F S64x512 .bf16 := k0_pay15 (acc4 ids tab c) (inV ids tab c 5)
/-- The sum of the eight contributions to device `c`'s block: as kept, and as stored for sending. -/
abbrev sumV (c : Dev nD) : FVec F S64x512 .bf16 := k0_pay16 (acc5 ids tab c) (inV ids tab c 6)
def redV (c : Dev nD) : FVec F S64x512 .bf16 := k0_pay17 (acc5 ids tab c) (inV ids tab c 6)
/-- Block `p` of device `c`'s output. -/
def blockV (c p : Dev nD) : FVec F S64x512 .f32 :=
  if p = c then k0_pay18 (sumV ids tab c) else k0_pay1 (up (redV ids tab p))

/-! ## The schedule -/

/-- A block of memory at some contents. -/
def some' (c : Dev nD) (M : Memref sig .tc .vmem S64x512 .bf16) : sProp 𝕄 := iprop(∃ X, ownsTc c M fullShare X)

/-- The share of the sum's buffer that the `j`-th copy reads from. -/
def shr (j : Fin 7) : PosShare TreeShare := ShareLeaves.leaf 3 fullShare ⟨j.val, by have := j.isLt; omega⟩

/-- What the `j`-th peer of `d` hands over to `d` at the barrier. -/
def barPay (d : Dev nD) (j : Fin 7) : sProp 𝕄 :=
  iprop(some' (pr d j) (raM j) ∗ some' (pr d j) (rbM j) ∗ reached ER (dC 1 (pr d j) j) 0 ∗ reached ER (dC 3 (pr d j) j) 0)
/-- What the transfers hand over to `d`, by family. -/
def dmaPay (d : Dev nD) (q : Fin 4) (j : Fin 7) : sProp 𝕄 := match q with
  | 0 => some' d (pcM (pr d j))
  | 1 => ownsTc d (raM j) fullShare (pieceV ids tab (pr d j) d)
  | 2 => ownsTc d redM (shr j) (redV ids tab d)
  | 3 => ownsTc d (rbM j) fullShare (redV ids tab (pr d j))

def payOf (d : Dev nD) (k : Fin 7) : SemLoc sig → sProp 𝕄
  | .reg s => if s = barS then barPay d k else iprop(emp)
  | .dma x => match dkind x with | some (q, j) => dmaPay ids tab d q j | none => iprop(emp)
def dutyOf : SemLoc sig → Finset (Fin 7)
  | .reg s => if s = barS then Finset.univ else ∅
  | .dma x => match dkind x with | some _ => {0} | none => ∅
def amtOf : SemLoc sig → ℕ
  | .reg _ => 1
  | .dma _ => N

/-- The schedule: everything in round 0. -/
def Rd : Rounds.Schedule (GSem nD τ sig) (Fin 7) 𝕄 where
  duties g r := if r = 0 ∧ g.1.2 = .tc then dutyOf g.2 else ∅
  unitless _ := False
  amount g _ _ := amtOf g.2
  payload g _ k := payOf ids tab g.1.1 k g.2
  amount_pos g _ _ _ := by
    rcases g with ⟨_, s | x⟩
    · exact Nat.one_pos
    · exact N_pos

instance some'_storable (c : Dev nD) (M : Memref sig .tc .vmem S64x512 .bf16) : BI.Storable (upEmb : UEmb _ 𝕄) (some' c M : sProp 𝕄) := by
  unfold some'; infer_instance
instance barPay_storable (d : Dev nD) (k : Fin 7) : BI.Storable (upEmb : UEmb _ 𝕄) (barPay d k : sProp 𝕄) := by
  unfold barPay; infer_instance
instance dmaPay_storable (d : Dev nD) (q : Fin 4) (j : Fin 7) : BI.Storable (upEmb : UEmb _ 𝕄) (dmaPay ids tab d q j : sProp 𝕄) := by
  unfold dmaPay; split <;> infer_instance
instance Rd_payload_storable (g : GSem nD τ sig) (r : ℕ) (d : Fin 7) :
    BI.Storable (upEmb : UEmb _ 𝕄) ((Rd (F := F) ids tab).payload g r d) := by
  show BI.Storable upEmb (payOf ids tab g.1.1 d g.2)
  unfold payOf
  (repeat' split) <;> infer_instance

section Sched
variable (c : Dev nD) (q : Fin 4) (j : Fin 7)

theorem duties_bar : (Rd ids tab).duties (barC c) 0 = Finset.univ := by
  show (if (0 = 0 ∧ (c : Thread nD τ).2 = .tc) then dutyOf (.reg barS) else ∅) = _
  rw [if_pos ⟨rfl, rfl⟩]; dsimp only [dutyOf]; rw [if_pos rfl]
theorem duties_dma : (Rd ids tab).duties (dC q c j) 0 = {0} := by
  show (if (0 = 0 ∧ (c : Thread nD τ).2 = .tc) then dutyOf (.dma (dq q j)) else ∅) = _
  rw [if_pos ⟨rfl, rfl⟩]; dsimp only [dutyOf]; rw [dkind_dq]
theorem duties_later (g : GSem nD τ sig) : ∀ r, 1 ≤ r → (Rd ids tab).duties g r = ∅ := fun r hr => by
  show (if (r = 0 ∧ _) then _ else ∅) = _
  rw [if_neg fun h => by omega]
theorem amount_bar (d : Fin 7) : (Rd ids tab).amount (barC c) 0 d = 1 := rfl
theorem amount_dma (d : Fin 7) : (Rd ids tab).amount (dC q c j) 0 d = N := rfl
theorem payload_bar (d : Fin 7) : (Rd ids tab).payload (barC c) 0 d = barPay c d := by
  show payOf ids tab c d (.reg barS) = _
  dsimp only [payOf]; rw [if_pos rfl]
theorem payload_dma (d : Fin 7) : (Rd ids tab).payload (dC q c j) 0 d = dmaPay ids tab c q j := by
  show payOf ids tab c d (.dma (dq q j)) = _
  dsimp only [payOf]; rw [dkind_dq]
theorem expect_bar : (Rd ids tab).expect (barC c) 0 = 7 := by
  unfold Schedule.expect Schedule.amountOf
  rw [duties_bar, Finset.sum_congr rfl fun d _ => amount_bar ids tab c d, Finset.sum_const, Finset.card_univ, Fintype.card_fin, smul_eq_mul]
theorem expect_dma : (Rd ids tab).expect (dC q c j) 0 = N := by
  unfold Schedule.expect Schedule.amountOf; rw [duties_dma, Finset.sum_singleton, amount_dma]
theorem rest_bar : bigSep ((Rd ids tab).duties (barC c) 0 \ ∅) (fun d => (Rd ids tab).payload (barC c) 0 d)
    = bigSep Finset.univ fun d => barPay c d := by
  rw [Finset.sdiff_empty, duties_bar]; exact bigSep_congr fun d _ => payload_bar ids tab c d
theorem rest_dma : bigSep ((Rd ids tab).duties (dC q c j) 0 \ ∅) (fun d => (Rd ids tab).payload (dC q c j) 0 d) = dmaPay ids tab c q j := by
  rw [Finset.sdiff_empty, duties_dma, bigSep_singleton, payload_dma]
end Sched

/-! ## What a device owes; the levels -/

/-- The dues of the peers from the `s`-th on. -/
def dueFrom (f : Fin 7 → CellTallies nD τ sig Unit) (s : ℕ) : CellTallies nD τ sig Unit := ∑ j ∈ Finset.univ.filter (fun j : Fin 7 => s ≤ j.val), f j

theorem dueFrom_step (f : Fin 7 → CellTallies nD τ sig Unit) (j : Fin 7) : dueFrom f j.val = dueFrom f (j.val + 1) + f j := by
  unfold dueFrom
  rw [show Finset.univ.filter (fun i : Fin 7 => j.val ≤ i.val) = insert j (Finset.univ.filter fun i : Fin 7 => j.val + 1 ≤ i.val) from by
    revert j; decide, Finset.sum_insert (by simp), add_comm]
theorem dueFrom_end (f : Fin 7 → CellTallies nD τ sig Unit) : dueFrom f 7 = 0 := by
  unfold dueFrom
  rw [show Finset.univ.filter (fun i : Fin 7 => 7 ≤ i.val) = ∅ from by decide, Finset.sum_empty]
theorem dueFrom_zero (f : Fin 7 → CellTallies nD τ sig Unit) : dueFrom f 0 = ∑ j, f j := by
  unfold dueFrom; rw [Finset.filter_true_of_mem fun _ _ => Nat.zero_le _]

/-- The units device `c` owes its peers' barrier cells, and the credits it owes their receive cells of the two exchanges. -/
def dueBar (c : Dev nD) (j : Fin 7) : CellTallies nD τ sig Unit := tallyAt (barC (pr c j)) () 1
def dueA (c : Dev nD) (j : Fin 7) : CellTallies nD τ sig Unit := tallyAt (dC 1 (pr c j) j) () N
def dueB (c : Dev nD) (j : Fin 7) : CellTallies nD τ sig Unit := tallyAt (dC 3 (pr c j) j) () N

/-- What is owed before the `s`-th signal, before the `s`-th copy of the first and of the second exchange. -/
def OB (c : Dev nD) (s : ℕ) : CellTallies nD τ sig Unit := dueFrom (dueB c) s
def OA (c : Dev nD) (s : ℕ) : CellTallies nD τ sig Unit := OB c 0 + dueFrom (dueA c) s
def OS (c : Dev nD) (s : ℕ) : CellTallies nD τ sig Unit := OA c 0 + dueFrom (dueBar c) s

theorem OB_step (c : Dev nD) (j : Fin 7) : OB c j.val = OB c (j.val + 1) + tallyAt (dC 3 (pr c j) j) () N := dueFrom_step _ j
theorem OA_step (c : Dev nD) (j : Fin 7) : OA c j.val = OA c (j.val + 1) + tallyAt (dC 1 (pr c j) j) () N := by
  unfold OA; rw [dueFrom_step, add_assoc]; rfl
theorem OS_step (c : Dev nD) (j : Fin 7) : OS c j.val = OS c (j.val + 1) + tallyAt (barC (pr c j)) () 1 := by
  unfold OS; rw [dueFrom_step, add_assoc]; rfl
theorem OB_end (c : Dev nD) : OB c 7 = 0 := dueFrom_end _
theorem OA_end (c : Dev nD) : OA c 7 = OB c 0 := by unfold OA; rw [dueFrom_end, add_zero]
theorem OS_end (c : Dev nD) : OS c 7 = OA c 0 := by unfold OS; rw [dueFrom_end, add_zero]

def L (g : GSem nD τ sig) : Finset Unit := if g.1.2 = .tc then {()} else ∅
/-- Barrier cells at 1, the first exchange's receive cells at 2, the second's at 3, the rest at 0. -/
def lvOf : SemLoc sig → ℕ
  | .reg _ => 1
  | .dma x => match dkind x with | some (1, _) => 2 | some (3, _) => 3 | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) (u : Unit) : u ∈ L ((c : Thread nD τ), sm) := by
  show u ∈ (if _ then _ else _); rw [if_pos rfl]; exact Finset.mem_singleton_self _
theorem lv_bar : lvOf (.reg barS) = 1 := rfl
theorem lv_dq (q : Fin 4) (j : Fin 7) : lvOf (.dma (dq q j)) = (match q with | 1 => 2 | 3 => 3 | _ => 0) := by
  dsimp only [lvOf]; rw [dkind_dq]; fin_cases q <;> rfl

theorem OB_pos {c : Dev nD} {s : ℕ} {g : GSem nD τ sig} {u : Unit} (h : 0 < OB c s g u) : ∃ j, g = dC 3 (pr c j) j := by
  obtain ⟨j, -, hj⟩ := Pipeline.sum_pos_exists h
  exact ⟨j, (Pipeline.tallyAt_pos hj).1⟩
theorem OA_pos {c : Dev nD} {s : ℕ} {g : GSem nD τ sig} {u : Unit} (h : 0 < OA c s g u) :
    (∃ j, g = dC 3 (pr c j) j) ∨ ∃ j, g = dC 1 (pr c j) j := by
  rcases Pipeline.add_pos_cases h with h | h
  · exact .inl (OB_pos h)
  · obtain ⟨j, -, hj⟩ := Pipeline.sum_pos_exists h
    exact .inr ⟨j, (Pipeline.tallyAt_pos hj).1⟩
theorem OS_pos {c : Dev nD} {s : ℕ} {g : GSem nD τ sig} {u : Unit} (h : 0 < OS c s g u) : u ∈ L g ∧ 0 < lv g u := by
  rcases Pipeline.add_pos_cases h with h | h
  · rcases OA_pos h with ⟨j, rfl⟩ | ⟨j, rfl⟩
    · exact ⟨L_tc _ _ u, by show 0 < lvOf _; rw [lv_dq]; decide⟩
    · exact ⟨L_tc _ _ u, by show 0 < lvOf _; rw [lv_dq]; decide⟩
  · obtain ⟨j, -, hj⟩ := Pipeline.sum_pos_exists h
    rw [(Pipeline.tallyAt_pos hj).1]
    exact ⟨L_tc _ _ u, by show 0 < lvOf _; rw [lv_bar]; decide⟩

/-- At the barrier a device owes receive credits only. -/
theorem mayWait_bar (c : Dev nD) : (levAts L lv : sProp 𝕄) ⊢ MayWait (c : Thread nD τ) (.reg barS) () (OA c 0) :=
  Pipeline.mayWait_of_levAts (L_tc c _ _) fun g u h => by
    rcases OA_pos h with ⟨j, rfl⟩ | ⟨j, rfl⟩
    · exact ⟨L_tc _ _ u, by show lvOf _ < lvOf _; rw [lv_dq, lv_bar]; decide⟩
    · exact ⟨L_tc _ _ u, by show lvOf _ < lvOf _; rw [lv_dq, lv_bar]; decide⟩
/-- At its other waits it owes the second exchange's receive credits at most. -/
theorem mayWait_dma (c : Dev nD) (q : Fin 4) (j : Fin 7) (s : ℕ) (hq : q.val < 3 ∨ s = 7) :
    (levAts L lv : sProp 𝕄) ⊢ MayWait (c : Thread nD τ) (.dma (dq q j)) () (OB c s) := by
  rcases hq with hq | rfl
  · refine Pipeline.mayWait_of_levAts (L_tc c _ _) fun g u h => ?_
    obtain ⟨j', rfl⟩ := OB_pos h
    refine ⟨L_tc _ _ u, ?_⟩
    show lvOf _ < lvOf _; rw [lv_dq, lv_dq]
    revert q; decide
  · rw [OB_end, MayWait_zero]; iintro -; iempintro

/-! ## All the cells -/

/-- The barrier cells and the DMA cells of the eight devices. -/
def barEmb : Dev nD ↪ GSem nD τ sig := ⟨fun c => barC c, fun _ _ h => congrArg (fun g : GSem nD τ sig => g.1.1) h⟩
def dEmb : Dev nD × (Fin 4 × Fin 7) ↪ GSem nD τ sig :=
  ⟨fun x => dC x.2.1 x.1 x.2.2, fun x y h => by
    have h1 : x.1 = y.1 := congrArg (fun g : GSem nD τ sig => g.1.1) h
    have h2 : dq x.2.1 x.2.2 = dq y.2.1 y.2.2 := by
      have := congrArg Prod.snd h
      exact SemLoc.dma.inj this
    exact Prod.ext h1 (Prod.ext (dq_inj h2).1 (dq_inj h2).2)⟩
abbrev barCells : Finset (GSem nD τ sig) := Finset.univ.map barEmb
abbrev dCells : Finset (GSem nD τ sig) := Finset.univ.map dEmb
theorem bar_mem (c : Dev nD) : barC c ∈ (barCells ∪ dCells : Finset (GSem nD τ sig)) :=
  Finset.mem_union_left _ (Finset.mem_map_of_mem barEmb (Finset.mem_univ c))
theorem d_mem (q : Fin 4) (c : Dev nD) (j : Fin 7) : dC q c j ∈ (barCells ∪ dCells : Finset (GSem nD τ sig)) :=
  Finset.mem_union_right _ (Finset.mem_map_of_mem dEmb (Finset.mem_univ (c, (q, j))))

/-- The invariants of all the cells, under one map of names, and that every barrier cell is open. -/
def invs (κ : GSem nD τ sig → ℕ) : sProp 𝕄 :=
  iprop((bigSep (barCells ∪ dCells) fun g => cellInv ER (Rd ids tab) (κ g) g) ∗ bigSep barCells fun g => reached ER g 0)
instance invs_persistent (κ : GSem nD τ sig → ℕ) : BI.Persistent (invs ids tab κ) := by unfold invs; infer_instance
theorem inv_bar (κ : GSem nD τ sig → ℕ) (c : Dev nD) : invs ids tab κ ⊢ cellInv ER (Rd ids tab) (κ (barC c)) (barC c) := by
  unfold invs
  iintro ⟨H, -⟩
  iapply (show (bigSep (barCells ∪ dCells) fun g => (cellInv ER (Rd ids tab) (κ g) g : sProp 𝕄)) ⊢ cellInv ER (Rd ids tab) (κ (barC c)) (barC c) from bigSep_elim (bar_mem c))
  iexact H
theorem inv_dma (κ : GSem nD τ sig → ℕ) (q : Fin 4) (c : Dev nD) (j : Fin 7) :
    invs ids tab κ ⊢ cellInv ER (Rd ids tab) (κ (dC q c j)) (dC q c j) := by
  unfold invs
  iintro ⟨H, -⟩
  iapply (show (bigSep (barCells ∪ dCells) fun g => (cellInv ER (Rd ids tab) (κ g) g : sProp 𝕄)) ⊢ cellInv ER (Rd ids tab) (κ (dC q c j)) (dC q c j) from bigSep_elim (d_mem q c j))
  iexact H
theorem inv_open (κ : GSem nD τ sig → ℕ) (c : Dev nD) : invs ids tab κ ⊢ reached ER (barC c) 0 := by
  unfold invs
  iintro ⟨-, H⟩
  iapply (show (bigSep barCells fun g => (reached ER g 0 : sProp 𝕄)) ⊢ reached ER (barC c) 0 from bigSep_elim (Finset.mem_map_of_mem barEmb (Finset.mem_univ c)))
  iexact H

end Cert.KernelIdeal.Talk

end
-- ==== Proof.Math.lean ====
/-
The arithmetic of the lookup over the extended reals, apart from any program: the sum of a row of a one-hot matrix against a
column is one entry or zero, and of eight terms that vanish but at one device the sum is that term.
-/
module

public import proofs.«01_k».proof.Proof.Proto
public import Idealize.ShloMosaic.Lib.MatmulPlain
public import Idealize.ShloMosaic.Lib.StableHlo.Predicate

@[expose] public section

noncomputable section

namespace Cert.KernelIdeal.Talk

open Cert.KernelIdeal Cert.KernelIdeal.Gen
open Idealize.ShloMosaic Idealize.ShloMosaic.ValueIdx
open scoped BigOperators

/-- The bit of a comparison for equality, widened and read as a number, is one or zero. -/
theorem hot_eq (w v : BitVec 32) :
    (((((IntOp.cmpi .eq w v).setWidth 32).toInt : ℝ)) : EReal) = if w = v then 1 else 0 := by
  by_cases h : w = v
  · rw [if_pos h, (StableHlo.Predicate.cmpi_eq_iff).mpr h]; norm_num
  · rw [if_neg h, eq_zero_of_ne_one (fun e => h (StableHlo.Predicate.cmpi_eq_iff.mp e))]; norm_num

/-- A row of the one-hot matrix of a word against a column: the column's entry at the word, or zero where it has none. -/
theorem hot_sum (w : BitVec 32) (f : Fin 4096 → EReal) :
    ∑ k : Fin 4096, (if w = BitVec.ofNat 32 k.val then (1 : EReal) else 0) * f k = if h : w.toNat < 4096 then f ⟨w.toNat, h⟩ else 0 := by
  split
  · next h =>
    rw [Finset.sum_eq_single ⟨w.toNat, h⟩]
    · rw [if_pos (by simp), one_mul]
    · intro k _ hk
      rw [if_neg, zero_mul]
      intro e
      have := k.isLt
      have e' := congrArg BitVec.toNat e
      rw [BitVec.toNat_ofNat, Nat.mod_eq_of_lt (by omega)] at e'
      exact hk (Fin.ext e'.symm)
    · intro hk; exact absurd (Finset.mem_univ _) hk
  · next h =>
    refine Finset.sum_eq_zero fun k _ => ?_
    rw [if_neg, zero_mul]
    intro e
    have := k.isLt
    rw [e, BitVec.toNat_ofNat, Nat.mod_eq_of_lt (by omega)] at h
    omega

/-- The first row that a device holds is 4096 times its number. -/
theorem base_toNat (c : Dev nD) : (base c).toNat = 4096 * c.val := by revert c; decide

/-- A word less the device's first row, when the word names a row of the whole table and the device holds that row. -/
theorem sub_base (c : Dev nD) (w : BitVec 32) (hw : w.toNat < 32768) (h : w.toNat / 4096 = c.val) :
    (w - base c).toNat = w.toNat % 4096 := by
  rw [BitVec.toNat_sub, base_toNat]
  have : c.val < 8 := c.isLt
  omega

/-- The same, when another device holds the row: the difference, wrapped, names none of this device's rows. -/
theorem sub_base_ge (c : Dev nD) (w : BitVec 32) (hw : w.toNat < 32768) (h : w.toNat / 4096 ≠ c.val) :
    ¬ (w - base c).toNat < 4096 := by
  rw [BitVec.toNat_sub, base_toNat]
  have : c.val < 8 := c.isLt
  omega

/-- One's own term and the seven peers' add up to the term of the one device where they do not vanish. -/
theorem sum_all (f : Dev nD → EReal) (o c : Dev nD) (h : ∀ p, p ≠ o → f p = 0) :
    f c + f (pr c 0) + f (pr c 1) + f (pr c 2) + f (pr c 3) + f (pr c 4) + f (pr c 5) + f (pr c 6) = f o := by
  rcases eq_or_pr c o with rfl | ⟨j, rfl⟩
  · simp only [h _ (pr_ne _ _), add_zero]
  · have hc : f c = 0 := h c (pr_ne c j).symm
    have hp : ∀ j', j' ≠ j → f (pr c j') = 0 := fun j' e => h _ fun q => e (pr_inj c q)
    rw [hc]
    fin_cases j <;> simp [hp]

end Cert.KernelIdeal.Talk

end
-- ==== Proof.Ops.lean ====
/-
# The operations of the exchange, one by one

Each theorem says what one operation of the kernel's body does to what the device holds. The resources of a phase are kept
in one assertion that counts how many of the phase's seven steps are done: what the steps still need (`above s`), and what the
steps done have left (`below s`).
-/
module

public import proofs.«01_k».proof.Proof.Proto

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The device's program `p` runs from here and ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Counting steps -/

section Count
variable (R : Fin 7 → sProp (MT nD τ sig Unit (Elt F) ℕ UU ℕ))

/-- `R` of the steps from the `s`-th on, and of the steps before it. -/
def above (s : ℕ) : sProp 𝕄 := bigSep (Finset.univ.filter fun j : Fin 7 => s ≤ j.val) R
def below (s : ℕ) : sProp 𝕄 := bigSep (Finset.univ.filter fun j : Fin 7 => j.val < s) R

theorem above_step (j : Fin 7) : (above (F := F) R j.val) = iprop(R j ∗ above R (j.val + 1)) := by
  unfold above
  rw [show Finset.univ.filter (fun i : Fin 7 => j.val ≤ i.val) = insert j (Finset.univ.filter fun i : Fin 7 => j.val + 1 ≤ i.val) from by
    revert j; decide, bigSep_insert (by simp)]
  rfl
theorem below_step (j : Fin 7) : (below (F := F) R (j.val + 1)) = iprop(R j ∗ below R j.val) := by
  unfold below
  rw [show Finset.univ.filter (fun i : Fin 7 => i.val < j.val + 1) = insert j (Finset.univ.filter fun i : Fin 7 => i.val < j.val) from by
    revert j; decide, bigSep_insert (by simp)]
  rfl
theorem above_zero : (above (F := F) R 0) = bigSep Finset.univ R := by
  unfold above; rw [Finset.filter_true_of_mem fun _ _ => Nat.zero_le _]
theorem below_zero : (below (F := F) R 0) = iprop(emp) := by
  unfold below; rw [show Finset.univ.filter (fun i : Fin 7 => i.val < 0) = ∅ from by decide]; rfl
theorem above_end : (above (F := F) R 7) = iprop(emp) := by
  unfold above; rw [show Finset.univ.filter (fun i : Fin 7 => 7 ≤ i.val) = ∅ from by decide]; rfl
theorem below_end : (below (F := F) R 7) = bigSep Finset.univ R := by
  unfold below; rw [Finset.filter_true_of_mem fun j _ => j.isLt]
end Count

/-! ## Where the blocks lie -/

section Places
variable (c : Dev nD) (j : Fin 7)

theorem off1_eq : k0_off1 c (BitVec.ofNat 32 (j.val + 1)) = ![64 * (pr c j).val, 0] := by revert c j; decide
theorem off2_eq : k0_off2 c (BitVec.ofNat 32 (j.val + 1)) = ![64 * (pr c j).val, 0] := by revert c j; decide
theorem off3_eq : k0_off3 c (BitVec.ofNat 32 (j.val + 1)) = ![64 * (pr c j).val, 0] := by revert c j; decide
theorem off4_eq : k0_off4 c = ![64 * c.val, 0] := by revert c; decide
theorem off5_eq : k0_off5 c = ![64 * c.val, 0] := by revert c; decide

theorem pcM_eq {off : Fin 2 → ℕ} {h : ∀ a, off a + S64x512.size a ≤ S512x512.size a} {p : Dev nD} (ho : off = ![64 * p.val, 0]) :
    parM.slice (Rect.unit (s := S512x512) off S64x512.size h) (fun _ => rfl) = pcM p := by subst ho; rfl

theorem set_par (p : Dev nD) : parM.view.setOn (rowR p).toLoadRect.set = (pcM p).view.set := (View.set_slice _ _).symm
theorem set_oc (p : Dev nD) : outM.view.setOn (rowR p).toLoadRect.set = (ocM p).view.set := (View.set_slice _ _).symm
theorem set_ra (j : Fin 7) : ra3M.view.setOn (slotR j).toLoadRect.set = (raM j).view.set :=
  ((View.set_reshape _ _).trans (View.set_slice _ _)).symm
theorem set_rb (j : Fin 7) : rb3M.view.setOn (slotR j).toLoadRect.set = (rbM j).view.set :=
  ((View.set_reshape _ _).trans (View.set_slice _ _)).symm

theorem read_ra (f : (raM j).view.ty.Contents (Elt F)) :
    ra3M.view.readAt (Elt F) (slotR j).toLoadRect f = up ((raM j).view.read (Elt F) f) := by
  funext i
  show _ = (ra3M.view.slice (slotR j)).read (Elt F) f (Shape.reshapeEquiv _ ((Shape.reshapeEquiv _).symm i))
  rw [Equiv.apply_symm_apply]; rfl
theorem read_rb (f : (rbM j).view.ty.Contents (Elt F)) :
    rb3M.view.readAt (Elt F) (slotR j).toLoadRect f = up ((rbM j).view.read (Elt F) f) := by
  funext i
  show _ = (rb3M.view.slice (slotR j)).read (Elt F) f (Shape.reshapeEquiv _ ((Shape.reshapeEquiv _).symm i))
  rw [Equiv.apply_symm_apply]; rfl
end Places

/-! ## Owning a block, at its buffer -/

section Owns
variable (c : Dev nD) (q : PosShare TreeShare) (X : S64x512.Idx → Elt F .bf16) (Y : S64x512.Idx → Elt F .f32)

theorem owns_pc (p : Dev nD) : (ownsTc c (pcM p) q X : sProp 𝕄)
    = iprop(∃ f : Buf (Elt F) (parM.view.loc (c : Thread nD τ)), ⌜(pcM p).view.read (Elt F) f = X⌝ ∗ (parM.view.loc (c : Thread nD τ) ↦[(pcM p).view.set]{q} f)) := rfl
theorem owns_oc (p : Dev nD) : (ownsTc c (ocM p) q Y : sProp 𝕄)
    = iprop(∃ f : Buf (Elt F) (outM.view.loc (c : Thread nD τ)), ⌜(ocM p).view.read (Elt F) f = Y⌝ ∗ (outM.view.loc (c : Thread nD τ) ↦[(ocM p).view.set]{q} f)) := rfl
theorem owns_ra (j : Fin 7) : (ownsTc c (raM j) q X : sProp 𝕄)
    = iprop(∃ f : Buf (Elt F) (ra3M.view.loc (c : Thread nD τ)), ⌜(raM j).view.read (Elt F) f = X⌝ ∗ (ra3M.view.loc (c : Thread nD τ) ↦[(raM j).view.set]{q} f)) := rfl
theorem owns_rb (j : Fin 7) : (ownsTc c (rbM j) q X : sProp 𝕄)
    = iprop(∃ f : Buf (Elt F) (rb3M.view.loc (c : Thread nD τ)), ⌜(rbM j).view.read (Elt F) f = X⌝ ∗ (rb3M.view.loc (c : Thread nD τ) ↦[(rbM j).view.set]{q} f)) := rfl
theorem owns_red : (ownsTc c redM q X : sProp 𝕄)
    = iprop(∃ f : Buf (Elt F) (redM.view.loc (c : Thread nD τ)), ⌜f = X⌝ ∗ (redM.view.loc (c : Thread nD τ) ↦{q} f)) :=
  owns_whole_eq (c : Thread nD τ) cc0_scratch2 q X
end Owns

/-! ## Loads and stores -/

section Mem
variable (c : Dev nD) {α : Type} {Q : α → sProp (MT nD τ sig Unit (Elt F) ℕ UU ℕ)}

/-- Loading the ids of block `p`. -/
theorem ld_ids (p : Dev nD) {off : Fin 2 → ℕ} {h : ∀ a, off a + S64x1.size a ≤ S512x1.size a} (ho : off = ![64 * p.val, 0])
    {hl : idM.view.LoadsAt (Rect.unit (s := S512x1) off S64x1.size h).toLoadRect} (x : Vec F S512x1 .i32)
    {k : ((Rect.unit (s := S512x1) off S64x1.size h).toLoadRect.shape.Idx → Elt F .i32) → Prog (TpuEff nD τ sig (Elt F) Λ₀ .tc) α} :
    (idM.view.loc (c : Thread nD τ) ↦{fullShare} x : sProp 𝕄)
      ⊢ iprop(((idM.view.loc (c : Thread nD τ) ↦{fullShare} x) -∗ WP c (k (rowsOf x p)) Q) -∗ WP c (.op (.load idM _ hl) k) Q) := by
  subst ho
  iintro H Hk
  iapply (wp_load 𝒱₀ (c : Thread nD τ) none Set.univ (m := idM) (Finset.subset_univ _)) $$ H
  iexact Hk

/-- Loading the table's block. -/
theorem ld_tab {off : Fin 2 → ℕ} {h : ∀ a, off a + S4096x512.size a ≤ S4096x512.size a} (ho : off = ![0, 0])
    {hl : tabM.view.LoadsAt (Rect.unit (s := S4096x512) off S4096x512.size h).toLoadRect} (x : Vec F S4096x512 .bf16)
    {k : ((Rect.unit (s := S4096x512) off S4096x512.size h).toLoadRect.shape.Idx → Elt F .bf16) → Prog (TpuEff nD τ sig (Elt F) Λ₀ .tc) α} :
    (tabM.view.loc (c : Thread nD τ) ↦{fullShare} x : sProp 𝕄)
      ⊢ iprop(((tabM.view.loc (c : Thread nD τ) ↦{fullShare} x) -∗ WP c (k x) Q) -∗ WP c (.op (.load tabM _ hl) k) Q) := by
  subst ho
  iintro H Hk
  have e : tabM.view.readAt (Elt F) (Rect.unit (s := S4096x512) ![0, 0] S4096x512.size h).toLoadRect x = x :=
    Memref.readAt_unit_zero (Elt F) cc0_stg1_0 (off := ![0, 0]) (funext fun a => by fin_cases a <;> rfl) h x
  iapply (wp_load 𝒱₀ (c : Thread nD τ) none Set.univ (m := tabM) (Finset.subset_univ _)) $$ H
  rw [e]
  iexact Hk

/-- Loading block `p` of the contributions buffer, the result not used. -/
theorem ld_par (p : Dev nD) {off : Fin 2 → ℕ} {h : ∀ a, off a + S64x512.size a ≤ S512x512.size a} (ho : off = ![64 * p.val, 0])
    {hl : parM.view.LoadsAt (Rect.unit (s := S512x512) off S64x512.size h).toLoadRect} {k : Prog (TpuEff nD τ sig (Elt F) Λ₀ .tc) α} :
    some' c (pcM p) ⊢ iprop((some' c (pcM p) -∗ WP c k Q) -∗ WP c (.op (.load parM _ hl) fun _ => k) Q) := by
  subst ho
  unfold some'
  simp only [owns_pc]
  iintro ⟨%X, %f, %hf, H⟩ Hk
  iapply (wp_load 𝒱₀ (c : Thread nD τ) none Set.univ (m := parM) (set_par p).subset) $$ H
  iintro H; iapply Hk
  iexists X; iexists f; isplitr; · ipureintro; exact hf
  iexact H

/-- Storing `w` to block `p` of the contributions buffer. -/
theorem st_par (p : Dev nD) {off : Fin 2 → ℕ} {h : ∀ a, off a + S64x512.size a ≤ S512x512.size a} (ho : off = ![64 * p.val, 0])
    {w : (Rect.unit (s := S512x512) off S64x512.size h).shape.Idx → Elt F .bf16} (w' : S64x512.Idx → Elt F .bf16) (hw : w = w')
    {hx : (parM.access (Rect.unit (s := S512x512) off S64x512.size h)).Stores Finset.univ} {hm} {k : PUnit → Prog (TpuEff nD τ sig (Elt F) Λ₀ .tc) α} :
    some' c (pcM p) ⊢ iprop((ownsTc c (pcM p) fullShare w' -∗ WP c (k ⟨⟩) Q)
      -∗ WP c (.op (.store parM (Rect.unit (s := S512x512) off S64x512.size h) w Finset.univ hx hm) k) Q) := by
  subst ho; subst hw
  unfold some'
  simp only [owns_pc]
  iintro ⟨%X, %f, %hf, H⟩ Hk
  iapply (show (parM.view.loc (c : Thread nD τ) ↦[(pcM p).view.set]{fullShare} f : sProp 𝕄)
      ⊢ iprop(((parM.view.loc (c : Thread nD τ) ↦[(pcM p).view.set]{fullShare} ((pcM p).view.write (Elt F) f w Finset.univ)) -∗ WP c (k ⟨⟩) Q)
        -∗ WP c (.op (.store parM (rowR p) w Finset.univ hx hm) k) Q) from
    wp_store 𝒱₀ (c : Thread nD τ) none Set.univ (m := parM) (r := rowR p) (Mk := Finset.univ) (S := (pcM p).view.set) (f := f) (Finset.Subset.refl _)) $$ H
  iintro H; iapply Hk
  iexists _; isplitr
  · ipureintro; exact View.read_write_univ (v := (pcM p).view) f w
  iexact H

/-- A block of the output's staging buffer at some contents. -/
def someO (c : Dev nD) (p : Dev nD) : sProp 𝕄 := iprop(∃ X, ownsTc c (ocM p) fullShare X)

/-- Loading block `p` of the output's staging buffer, the result not used. -/
theorem ld_out (p : Dev nD) {off : Fin 2 → ℕ} {h : ∀ a, off a + S64x512.size a ≤ S512x512.size a} (ho : off = ![64 * p.val, 0])
    {hl : outM.view.LoadsAt (Rect.unit (s := S512x512) off S64x512.size h).toLoadRect} {k : Prog (TpuEff nD τ sig (Elt F) Λ₀ .tc) α} :
    someO c p ⊢ iprop((someO c p -∗ WP c k Q) -∗ WP c (.op (.load outM _ hl) fun _ => k) Q) := by
  subst ho
  unfold someO
  simp only [owns_oc]
  iintro ⟨%X, %f, %hf, H⟩ Hk
  iapply (wp_load 𝒱₀ (c : Thread nD τ) none Set.univ (m := outM) (set_oc p).subset) $$ H
  iintro H; iapply Hk
  iexists X; iexists f; isplitr; · ipureintro; exact hf
  iexact H

/-- Storing `w` to block `p` of the output's staging buffer. -/
theorem st_out (p : Dev nD) {off : Fin 2 → ℕ} {h : ∀ a, off a + S64x512.size a ≤ S512x512.size a} (ho : off = ![64 * p.val, 0])
    {w : (Rect.unit (s := S512x512) off S64x512.size h).shape.Idx → Elt F .f32} (w' : S64x512.Idx → Elt F .f32) (hw : w = w')
    {hx : (outM.access (Rect.unit (s := S512x512) off S64x512.size h)).Stores Finset.univ} {hm} {k : PUnit → Prog (TpuEff nD τ sig (Elt F) Λ₀ .tc) α} :
    someO c p ⊢ iprop((ownsTc c (ocM p) fullShare w' -∗ WP c (k ⟨⟩) Q)
      -∗ WP c (.op (.store outM (Rect.unit (s := S512x512) off S64x512.size h) w Finset.univ hx hm) k) Q) := by
  subst ho; subst hw
  unfold someO
  simp only [owns_oc]
  iintro ⟨%X, %f, %hf, H⟩ Hk
  iapply (show (outM.view.loc (c : Thread nD τ) ↦[(ocM p).view.set]{fullShare} f : sProp 𝕄)
      ⊢ iprop(((outM.view.loc (c : Thread nD τ) ↦[(ocM p).view.set]{fullShare} ((ocM p).view.write (Elt F) f w Finset.univ)) -∗ WP c (k ⟨⟩) Q)
        -∗ WP c (.op (.store outM (rowR p) w Finset.univ hx hm) k) Q) from
    wp_store 𝒱₀ (c : Thread nD τ) none Set.univ (m := outM) (r := rowR p) (Mk := Finset.univ) (S := (ocM p).view.set) (f := f) (Finset.Subset.refl _)) $$ H
  iintro H; iapply Hk
  iexists _; isplitr
  · ipureintro; exact View.read_write_univ (v := (ocM p).view) f w
  iexact H

/-- Loading slot `j` of the first exchange's landing buffer. -/
theorem ld_ra (j : Fin 7) {off : Fin 3 → ℕ} {h : ∀ a, off a + S1x64x512.size a ≤ S7x64x512.size a} (ho : off = ![j.val, 0, 0])
    {hl : ra3M.view.LoadsAt (Rect.unit (s := S7x64x512) off S1x64x512.size h).toLoadRect} (X : S64x512.Idx → Elt F .bf16)
    {k : ((Rect.unit (s := S7x64x512) off S1x64x512.size h).toLoadRect.shape.Idx → Elt F .bf16) → Prog (TpuEff nD τ sig (Elt F) Λ₀ .tc) α} :
    (ownsTc c (raM j) fullShare X : sProp 𝕄)
      ⊢ iprop((ownsTc c (raM j) fullShare X -∗ WP c (k (up X)) Q) -∗ WP c (.op (.load ra3M _ hl) k) Q) := by
  subst ho
  simp only [owns_ra]
  iintro ⟨%f, %hf, H⟩ Hk
  iapply (wp_load 𝒱₀ (c : Thread nD τ) none Set.univ (m := ra3M) (set_ra j).subset) $$ H
  iintro H
  have e : ra3M.view.readAt (Elt F) (Rect.unit (s := S7x64x512) ![j.val, 0, 0] S1x64x512.size h).toLoadRect f = up X := (read_ra j f).trans (congrArg up hf)
  rw [e]
  iapply Hk
  iexists f; isplitr; · ipureintro; exact hf
  iexact H

/-- Loading slot `j` of the second exchange's landing buffer. -/
theorem ld_rb (j : Fin 7) {off : Fin 3 → ℕ} {h : ∀ a, off a + S1x64x512.size a ≤ S7x64x512.size a} (ho : off = ![j.val, 0, 0])
    {hl : rb3M.view.LoadsAt (Rect.unit (s := S7x64x512) off S1x64x512.size h).toLoadRect} (X : S64x512.Idx → Elt F .bf16)
    {k : ((Rect.unit (s := S7x64x512) off S1x64x512.size h).toLoadRect.shape.Idx → Elt F .bf16) → Prog (TpuEff nD τ sig (Elt F) Λ₀ .tc) α} :
    (ownsTc c (rbM j) fullShare X : sProp 𝕄)
      ⊢ iprop((ownsTc c (rbM j) fullShare X -∗ WP c (k (up X)) Q) -∗ WP c (.op (.load rb3M _ hl) k) Q) := by
  subst ho
  simp only [owns_rb]
  iintro ⟨%f, %hf, H⟩ Hk
  iapply (wp_load 𝒱₀ (c : Thread nD τ) none Set.univ (m := rb3M) (set_rb j).subset) $$ H
  iintro H
  have e : rb3M.view.readAt (Elt F) (Rect.unit (s := S7x64x512) ![j.val, 0, 0] S1x64x512.size h).toLoadRect f = up X := (read_rb j f).trans (congrArg up hf)
  rw [e]
  iapply Hk
  iexists f; isplitr; · ipureintro; exact hf
  iexact H

/-- Loading the sum's buffer, the result not used; -/
theorem ld_red {off : Fin 2 → ℕ} {h : ∀ a, off a + S64x512.size a ≤ S64x512.size a}
    {hl : redM.view.LoadsAt (Rect.unit (s := S64x512) off S64x512.size h).toLoadRect} {k : Prog (TpuEff nD τ sig (Elt F) Λ₀ .tc) α} :
    some' c redM ⊢ iprop((some' c redM -∗ WP c k Q) -∗ WP c (.op (.load redM _ hl) fun _ => k) Q) := by
  unfold some'
  simp only [owns_red]
  iintro ⟨%X, %f, %hf, H⟩ Hk
  iapply (wp_load 𝒱₀ (c : Thread nD τ) none Set.univ (m := redM) (Finset.subset_univ _)) $$ H
  iintro H; iapply Hk
  iexists X; iexists f; isplitr; · ipureintro; exact hf
  iexact H
/-- a store of the whole buffer leaves what is stored; -/
theorem write_red (h : ∀ a, (![0, 0] : Fin 2 → ℕ) a + S64x512.size a ≤ S64x512.size a) (w : S64x512.Idx → Elt F .bf16) (f : Buf (Elt F) (redM.view.loc (c : Thread nD τ))) :
   (redM.access (Rect.unit (s := S64x512) ![0, 0] S64x512.size h)).write (Elt F) f w Finset.univ = w := by
  have hz : (![0, 0] : Fin 2 → ℕ) = fun _ => 0 := funext fun a => by fin_cases a <;> rfl
  exact Memref.write_access_unit_zero_univ (Elt F) cc0_scratch2 hz h f w
theorem redM_written (h : ∀ a, (![0, 0] : Fin 2 → ℕ) a + S64x512.size a ≤ S64x512.size a) (w : S64x512.Idx → Elt F .bf16) (f : Buf (Elt F) (redM.view.loc (c : Thread nD τ))) :
 (redM.view.loc (c : Thread nD τ) ↦{fullShare} ((redM.access (Rect.unit (s := S64x512) ![0, 0] S64x512.size h)).write (Elt F) f w Finset.univ) : sProp 𝕄)
    ⊢ redM.view.loc (c : Thread nD τ) ↦{fullShare} w := by
  rw [write_red]
theorem wp_store_unit_zero (h : ∀ a, (![0, 0] : Fin 2 → ℕ) a + S64x512.size a ≤ S64x512.size a) (w : S64x512.Idx → Elt F .bf16)
    {hx : (redM.access (Rect.unit (s := S64x512) ![0, 0] S64x512.size h)).Stores Finset.univ} {hm} {k : PUnit → Prog (TpuEff nD τ sig (Elt F) Λ₀ .tc) α}
    (f : Buf (Elt F) (redM.view.loc (c : Thread nD τ))) :
    (redM.view.loc (c : Thread nD τ) ↦{fullShare} f : sProp 𝕄)
      ⊢ iprop(((redM.view.loc (c : Thread nD τ) ↦{fullShare} w) -∗ WP c (k ⟨⟩) Q)
        -∗ WP c (.op (.store redM (Rect.unit (s := S64x512) ![0, 0] S64x512.size h) w Finset.univ hx hm) k) Q) := by
  iintro H Hk
  iapply (wp_store 𝒱₀ (c : Thread nD τ) none Set.univ (m := redM) (r := Rect.unit (s := S64x512) ![0, 0] S64x512.size h) (Mk := Finset.univ) (f := f) (S := Finset.univ) (Finset.subset_univ _)) $$ [H]
  · iexact H
  iintro H
  iapply Hk
  iapply (redM_written c h w f)
  iexact H
/-- storing to it. -/
theorem st_red {off : Fin 2 → ℕ} {h : ∀ a, off a + S64x512.size a ≤ S64x512.size a} (ho : off = ![0, 0])
    {w : (Rect.unit (s := S64x512) off S64x512.size h).shape.Idx → Elt F .bf16} (w' : S64x512.Idx → Elt F .bf16) (hw : w = w')
    {hx : (redM.access (Rect.unit (s := S64x512) off S64x512.size h)).Stores Finset.univ} {hm} {k : PUnit → Prog (TpuEff nD τ sig (Elt F) Λ₀ .tc) α} :
    some' c redM ⊢ iprop((ownsTc c redM fullShare w' -∗ WP c (k ⟨⟩) Q)
      -∗ WP c (.op (.store redM (Rect.unit (s := S64x512) off S64x512.size h) w Finset.univ hx hm) k) Q) := by
  subst ho; subst hw
  unfold some'
  simp only [owns_red]
  iintro ⟨%X, %f, %hf, H⟩ Hk
  iapply (wp_store_unit_zero c h w (hx := hx) (hm := hm) f) $$ H
  iintro H; iapply Hk
  iexists w; isplitr
  · ipureintro; rfl
  iexact H
end Mem

end Cert.KernelIdeal.Talk

end
-- ==== Proof.Comm.lean ====
/-
# Signals, waits and copies

What the exchange's synchronising operations do to what the device holds: each pays or collects a duty of the schedule.
-/
module

public import proofs.«01_k».proof.Proof.Ops

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ids : Dev nD → Vec F S512x1 .i32) (tab : Dev nD → Vec F S4096x512 .bf16) (κ : GSem nD τ sig → ℕ)

/-- What device `c` owes, whatever waits it has behind it. -/
def ow (c : Dev nD) (O : CellTallies nD τ sig Unit) : sProp 𝕄 := iprop(∃ W, owes (c : Thread nD τ) O W)

section Steps
variable (c : Dev nD) {α : Type} {Q : α → sProp (MT nD τ sig Unit (Elt F) ℕ UU ℕ)}

/-- A signal to the `j`-th peer's barrier cell: it pays the `j`-th duty there. -/
theorem op_signal (j : Fin 7) {n : Dev nD} (hn : n = pr c j) {kk : ℕ} (hk : kk = 1) {O₀ O : CellTallies nD τ sig Unit}
    (hO : O₀ = O + tallyAt (barC (pr c j)) () 1) {k : PUnit → Prog (TpuEff nD τ sig (Elt F) Λ₀ .tc) α} :
    invs ids tab κ ⊢ iprop((ow c O₀ ∗ dutyTok ER (barC (pr c j)) 0 j ∗ barPay (pr c j) j) -∗ (ow c O -∗ WP c (k ⟨⟩) Q)
      -∗ WP c (.op (.semSignal (Dev.tc n) barS kk) k) Q) := by
  subst hn; subst hk
  unfold ow
  iintro #Hinv ⟨⟨%W, HO⟩, Htok, Hpay⟩ Hk
  iapply (Rounds.wp_signal 𝒱₀ ER (Rd ids tab) (c : Thread nD τ) none (dst := (pr c j : Thread nD τ)) (κ := κ (barC (pr c j))) (d := j)
    (by rw [duties_bar]; exact Finset.mem_univ j) (amount_bar ids tab (pr c j) j) () O hO) $$ [HO Htok Hpay]
  · isplitr; · iapply (inv_bar ids tab κ (pr c j)); iexact Hinv
    isplitl [HO]; · iexact HO
    isplitl [Htok]; · iexact Htok
    isplitl [Hpay]; · rw [payload_bar]; iexact Hpay
    iapply (inv_open ids tab κ (pr c j)); iexact Hinv
  iintro HO; iapply Hk; iexists W; iexact HO

/-- The wait for the seven peers. -/
theorem op_barrier {kk : ℕ} (hk : kk = 7) {O : CellTallies nD τ sig Unit} (hO : (levAts L lv : sProp 𝕄) ⊢ MayWait (c : Thread nD τ) (.reg barS) () O)
    {k : PUnit → Prog (TpuEff nD τ sig (Elt F) Λ₀ .tc) α} :
    invs ids tab κ ⊢ iprop(levAts L lv -∗ (ow c O ∗ cred (tallyAt (barC c) () 7) ∗ atPos ER (barC c) 0 ∅ 0)
      -∗ ((ow c O ∗ atPos ER (barC c) 1 ∅ 0 ∗ bigSep Finset.univ fun j => barPay c j) -∗ WP c (k ⟨⟩) Q)
      -∗ WP c (.op (.semWait barS kk) k) Q) := by
  subst hk
  unfold ow
  iintro #Hinv #Hlev ⟨⟨%W, HO⟩, Hc, Hat⟩ Hk
  iapply (Rounds.wp_wait_rest_token 𝒱₀ ER (Rd ids tab) (c : Thread nD τ) none (κ := κ (barC c))
      (wpE_semWait_eq 𝒱₀ (c : Thread nD τ) none Set.univ) (Set.mem_univ _) () (O := O) (W := W) (R := 0) (m := 0) (T := ∅)
      ((Nat.zero_add 7).trans (expect_bar ids tab c).symm)) $$ [Hc HO Hat]
  · isplitr; · iapply (inv_bar ids tab κ c); iexact Hinv
    isplitl [Hc]; · iexact Hc
    isplitl [HO]; · iexact HO
    isplitr; · iapply hO; iexact Hlev
    iexact Hat
  iintro ⟨HO, Hat, -, Hpay⟩
  iapply Hk
  isplitl [HO]; · iexists _; iexact HO
  isplitl [Hat]; · iexact Hat
  rw [← rest_bar ids tab c]; iexact Hpay

/-- The wait for the transfer that completes on the `j`-th cell of family `q`. -/
theorem op_wait (q : Fin 4) (j : Fin 7) {sem : DmaSem sig} (hs : sem = dq q j) {s s' : Shape} {e e' : EltTy} {src : Memref sig .tc .vmem s' e'}
    {dst : Memref sig .tc .vmem s e} (hN : dst.view.dmaCredit = N) {hsrc hdst} {O : CellTallies nD τ sig Unit}
    (hO : (levAts L lv : sProp 𝕄) ⊢ MayWait (c : Thread nD τ) (.dma (dq q j)) () O) {k : PUnit → Prog (TpuEff nD τ sig (Elt F) Λ₀ .tc) α} :
    invs ids tab κ ⊢ iprop(levAts L lv -∗ (ow c O ∗ cred (tallyAt (dC q c j) () N) ∗ atPos ER (dC q c j) 0 ∅ 0)
      -∗ ((ow c O ∗ atPos ER (dC q c j) 1 ∅ 0 ∗ dmaPay ids tab c q j) -∗ WP c (k ⟨⟩) Q)
      -∗ WP c (.op (.waitDma2 sem src dst hsrc hdst) k) Q) := by
  subst hs
  unfold ow
  iintro #Hinv #Hlev ⟨⟨%W, HO⟩, Hc, Hat⟩ Hk
  iapply (Rounds.wp_wait_rest_token 𝒱₀ ER (Rd ids tab) (c : Thread nD τ) none (κ := κ (dC q c j)) (k' := N) (sm := .dma (dq q j))
      (w := .waitDma2 (dq q j) src dst hsrc hdst)
      (fun K => (wpE_waitDma2_eq 𝒱₀ (c : Thread nD τ) none Set.univ K).trans (by rw [hN])) (Set.mem_univ _) () (O := O) (W := W) (R := 0) (m := 0) (T := ∅)
      ((Nat.zero_add N).trans (expect_dma ids tab c q j).symm)) $$ [Hc HO Hat]
  · isplitr; · iapply (inv_dma ids tab κ q c j); iexact Hinv
    isplitl [Hc]; · iexact Hc
    isplitl [HO]; · iexact HO
    isplitr; · iapply hO; iexact Hlev
    iexact Hat
  iintro ⟨HO, Hat, -, Hpay⟩
  iapply Hk
  isplitl [HO]; · iexists _; iexact HO
  isplitl [Hat]; · iexact Hat
  rw [← rest_dma ids tab c q j]; iexact Hpay

/-- A copy to the `j`-th peer, completing on the cells of families `q` here and `q'` there. -/
theorem op_send (q q' : Fin 4) (j : Fin 7) {n : Dev nD} (hn : n = pr c j) {src dst : Memref sig .tc .vmem S64x512 .bf16}
    (S D : Memref sig .tc .vmem S64x512 .bf16) (hS : src = S) (hD : dst = D) (hN : D.view.dmaCredit = N) {sS sR : DmaSem sig} (hsS : sS = dq q j) (hsR : sR = dq q' j)
    {hsc : dst.view.ref.isScScratch = false} {hsrc : src.view.WordExact} {hdst : dst.view.WordExact}
    {hsem : DmaTarget.Typed .vmem (.dma sR) (.remote (Dev.tc n) dst (.dma sS) hsc)}
    {O₀ O : CellTallies nD τ sig Unit} (hO : O₀ = O + tallyAt (dC q' (pr c j) j) () N) (sh : PosShare TreeShare) (X : S64x512.Idx → Elt F .bf16)
    (h₁ : (ownsTc c S sh X : sProp 𝕄) ⊢ dmaPay ids tab c q j) (h₂ : (ownsTc (pr c j) D fullShare X : sProp 𝕄) ⊢ dmaPay ids tab (pr c j) q' j)
    {k : PUnit → Prog (TpuEff nD τ sig (Elt F) Λ₀ .tc) α} :
    invs ids tab κ ⊢ iprop((ow c O₀ ∗ ownsTc c S sh X ∗ some' (pr c j) D ∗ reached ER (dC q' (pr c j) j) 0 ∗ reached ER (dC q c j) 0
          ∗ dutyTok ER (dC q c j) 0 0 ∗ dutyTok ER (dC q' (pr c j) j) 0 0)
      -∗ ((ow c O ∗ cred (tallyAt (dC q c j) () N)) -∗ WP c (k ⟨⟩) Q)
      -∗ WP c (.op (.enqueueDma src (.remote (Dev.tc n) dst (.dma sS) hsc) (.dma sR) hsrc hdst hsem) k) Q) := by
  subst hn; subst hS; subst hD; subst hsS; subst hsR
  unfold ow some' ownsTc owns
  iintro #Hinv ⟨⟨%W, HO⟩, ⟨%fs, %hfs, Hs⟩, ⟨%Y, %fd, -, Hd⟩, HrR, HrS, HtS, HtR⟩ Hk
  iapply (Rounds.wp_send_pointsTo 𝒱₀ ER (Rd ids tab) (c : Thread nD τ) none (c' := (pr c j : Thread nD τ)) (src := src) (dst := dst)
      (sS := .dma (dq q j)) (sem := .dma (dq q' j)) (κ₁ := κ (dC q c j)) (κ₂ := κ (dC q' (pr c j) j)) (r₁ := 0) (r₂ := 0) (d₁ := 0) (d₂ := 0)
      (fs := fs) (fd := fd) (by rw [duties_dma]; exact Finset.mem_singleton_self _) (by rw [duties_dma]; exact Finset.mem_singleton_self _)
      () () N hN (amount_dma ids tab c q j 0) (amount_dma ids tab (pr c j) q' j 0) O hO (W := W)
      (by
        rw [payload_dma]; refine (?_ : _ ⊢ _).trans h₁
        unfold ownsTc owns
        iintro H; iexists fs; isplitr; · ipureintro; exact hfs
        iexact H)
      (by
        rw [payload_dma]; refine (?_ : _ ⊢ _).trans h₂
        unfold ownsTc owns
        iintro H; iexists _; isplitr
        · ipureintro; exact (View.read_write_univ (v := dst.view) fd _).trans hfs
        iexact H)) $$ [HO Hs Hd HrR HrS HtS HtR]
  · isplitr; · iapply (inv_dma ids tab κ q c j); iexact Hinv
    isplitr; · iapply (inv_dma ids tab κ q' (pr c j) j); iexact Hinv
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩; iapply Hk
  isplitl [HO]; · iexists W; iexact HO
  iexact Hc
end Steps

end Cert.KernelIdeal.Talk

end
-- ==== Proof.Phases.lean ====
/-
# The phases of a device's run

The states a device goes through: signals sent, contributions computed and copied, copies awaited, sums copied, copies awaited,
and blocks of the output stored; and the step that each operation makes from one state to the next.
-/
module

public import proofs.«01_k».proof.Proof.Comm

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ids : Dev nD → Vec F S512x1 .i32) (tab : Dev nD → Vec F S4096x512 .bf16) (κ : GSem nD τ sig → ℕ)

/-! ## What the steps of a phase need and leave -/

section States
variable (c : Dev nD)

/-- The `j`-th signal: the duty it pays, and what it hands over. -/
def resB (j : Fin 7) : sProp 𝕄 := iprop(dutyTok ER (barC (pr c j)) 0 j ∗ barPay (pr c j) j)
/-- The two duties that a copy of family `q` pays, with the cells known open. -/
def toks (q q' : Fin 4) (j : Fin 7) : sProp 𝕄 :=
  iprop(reached ER (dC q' (pr c j) j) 0 ∗ reached ER (dC q c j) 0 ∗ dutyTok ER (dC q c j) 0 0 ∗ dutyTok ER (dC q' (pr c j) j) 0 0)
/-- The `j`-th copy of the first exchange: the peer's landing slot and the duties. -/
def goA (j : Fin 7) : sProp 𝕄 := iprop(some' (pr c j) (raM j) ∗ toks c 0 1 j)
def resA (j : Fin 7) : sProp 𝕄 := iprop(some' c (pcM (pr c j)) ∗ goA c j)
def doneQ (q : Fin 4) (j : Fin 7) : sProp 𝕄 := cred (tallyAt (dC q c j) () N)
/-- The `j`-th copy of the second exchange: a share of the sum's buffer, the peer's landing slot and the duties. -/
def resC (j : Fin 7) : sProp 𝕄 := iprop(ownsTc c redM (shr j) (redV ids tab c) ∗ some' (pr c j) (rbM j) ∗ toks c 2 3 j)
/-- The `j`-th pair of waits, and what it leaves. -/
def resW (q q' : Fin 4) (j : Fin 7) : sProp 𝕄 :=
  iprop((doneQ c q j ∗ atPos ER (dC q c j) 0 ∅ 0) ∗ (doneQ c q' j ∗ atPos ER (dC q' c j) 0 ∅ 0))
def gotW (q q' : Fin 4) (j : Fin 7) : sProp 𝕄 :=
  iprop((atPos ER (dC q c j) 1 ∅ 0 ∗ dmaPay ids tab c q j) ∗ (atPos ER (dC q' c j) 1 ∅ 0 ∗ dmaPay ids tab c q' j))
def gotU (j : Fin 7) : sProp 𝕄 := ownsTc c (ocM (pr c j)) fullShare (blockV ids tab c (pr c j))

/-- `s` signals sent. -/
def SB (s : ℕ) : sProp 𝕄 := iprop(ow c (OS c s) ∗ above (resB c) s)
/-- `s` copies of the first exchange issued; -/
def SA (s : ℕ) : sProp 𝕄 := iprop(ow c (OA c s) ∗ above (resA c) s ∗ below (doneQ c 0) s)
/-- and the `j`-th contribution stored besides. -/
def SAm (j : Fin 7) : sProp 𝕄 := iprop(ow c (OA c j.val) ∗ above (resA c) (j.val + 1) ∗ below (doneQ c 0) j.val
  ∗ (ownsTc c (pcM (pr c j)) fullShare (pieceV ids tab c (pr c j)) ∗ goA c j))
/-- `s` copies of the second exchange issued. -/
def SC (s : ℕ) : sProp 𝕄 := iprop(ow c (OB c s) ∗ above (resC ids tab c) s ∗ below (doneQ c 2) s)
/-- `s` pairs of waits done; -/
def SW (q q' : Fin 4) (t s : ℕ) : sProp 𝕄 := iprop(ow c (OB c t) ∗ above (resW c q q') s ∗ below (gotW ids tab c q q') s)
/-- and the first wait of the `j`-th pair besides. -/
def SWm (q q' : Fin 4) (t : ℕ) (j : Fin 7) : sProp 𝕄 := iprop(ow c (OB c t) ∗ above (resW c q q') (j.val + 1) ∗ below (gotW ids tab c q q') j.val
  ∗ ((atPos ER (dC q c j) 1 ∅ 0 ∗ dmaPay ids tab c q j) ∗ (doneQ c q' j ∗ atPos ER (dC q' c j) 0 ∅ 0)))
/-- `s` of the peers' blocks of the output stored. -/
def SU (s : ℕ) : sProp 𝕄 := iprop(above (fun j => someO c (pr c j)) s ∗ below (gotU ids tab c) s)
end States

/-! ## The steps -/

section Steps
variable (c : Dev nD) (j : Fin 7) {α : Type} {Q : α → sProp (MT nD τ sig Unit (Elt F) ℕ UU ℕ)}

theorem st_signal {s : ℕ} (hs : s = j.val) {s' : ℕ} (hs' : s' = j.val + 1) {n : Dev nD} (hn : n = pr c j) {kk : ℕ} (hk : kk = 1) {k : PUnit → Prog (TpuEff nD τ sig (Elt F) Λ₀ .tc) α} :
    invs ids tab κ ⊢ iprop(SB c s -∗ (SB c s' -∗ WP c (k ⟨⟩) Q) -∗ WP c (.op (.semSignal (Dev.tc n) barS kk) k) Q) := by
  subst hs
  subst hs'
  unfold SB
  rw [above_step]
  unfold resB
  iintro #Hinv ⟨HO, ⟨Ht, Hp⟩, Hr⟩ Hk
  iapply (op_signal ids tab κ c j hn hk (OS_step c j)) $$ Hinv [HO Ht Hp]
  · isplitl [HO]; · iexact HO
    isplitl [Ht]; · iexact Ht
    iexact Hp
  iintro HO; iapply Hk
  isplitl [HO]; · iexact HO
  iexact Hr

theorem st_A1 {s : ℕ} (hs : s = j.val) {off : Fin 2 → ℕ} {h : ∀ a, off a + S64x512.size a ≤ S512x512.size a} (ho : off = ![64 * (pr c j).val, 0])
    {hl : parM.view.LoadsAt (Rect.unit (s := S512x512) off S64x512.size h).toLoadRect} {k : Prog (TpuEff nD τ sig (Elt F) Λ₀ .tc) α} :
    SA c s ⊢ iprop((SA c s -∗ WP c k Q) -∗ WP c (.op (.load parM (Rect.unit (s := S512x512) off S64x512.size h).toLoadRect hl) fun _ => k) Q) := by
  subst hs
  unfold SA
  rw [above_step]
  unfold resA
  iintro ⟨HO, ⟨⟨Hp, Hg⟩, Hr⟩, Hd⟩ Hk
  iapply (ld_par c (pr c j) ho) $$ Hp
  iintro Hp; iapply Hk
  isplitl [HO]; · iexact HO
  isplitr [Hd]
  · isplitr [Hr]
    · isplitl [Hp]; · iexact Hp
      iexact Hg
    · iexact Hr
  iexact Hd

theorem st_A2 {s : ℕ} (hs : s = j.val) {off : Fin 2 → ℕ} {h : ∀ a, off a + S64x512.size a ≤ S512x512.size a} (ho : off = ![64 * (pr c j).val, 0])
    {w : (Rect.unit (s := S512x512) off S64x512.size h).shape.Idx → Elt F .bf16} (hw : w = pieceV ids tab c (pr c j))
    {hx : (parM.access (Rect.unit (s := S512x512) off S64x512.size h)).Stores Finset.univ} {hm} {k : PUnit → Prog (TpuEff nD τ sig (Elt F) Λ₀ .tc) α} :
    SA c s ⊢ iprop((SAm ids tab c j -∗ WP c (k ⟨⟩) Q)
      -∗ WP c (.op (.store parM (Rect.unit (s := S512x512) off S64x512.size h) w Finset.univ hx hm) k) Q) := by
  subst hs
  unfold SA SAm
  rw [above_step]
  unfold resA
  iintro ⟨HO, ⟨⟨Hp, Hg⟩, Hr⟩, Hd⟩ Hk
  iapply (st_par c (pr c j) ho _ hw) $$ Hp
  iintro Hp; iapply Hk
  isplitl [HO]; · iexact HO
  isplitl [Hr]; · iexact Hr
  isplitl [Hd]; · iexact Hd
  isplitl [Hp]; · iexact Hp
  iexact Hg

theorem st_A3 {s' : ℕ} (hs' : s' = j.val + 1) {n : Dev nD} (hn : n = pr c j) {src dst : Memref sig .tc .vmem S64x512 .bf16} (hS : src = pcM (pr c j)) (hD : dst = raM j)
    {sS sR : DmaSem sig} (hsS : sS = dq 0 j) (hsR : sR = dq 1 j) {hsc : dst.view.ref.isScScratch = false} {hsrc : src.view.WordExact} {hdst : dst.view.WordExact}
    {hsem : DmaTarget.Typed .vmem (.dma sR) (.remote (Dev.tc n) dst (.dma sS) hsc)} {k : PUnit → Prog (TpuEff nD τ sig (Elt F) Λ₀ .tc) α} :
    invs ids tab κ ⊢ iprop(SAm ids tab c j -∗ (SA c s' -∗ WP c (k ⟨⟩) Q)
      -∗ WP c (.op (.enqueueDma src (.remote (Dev.tc n) dst (.dma sS) hsc) (.dma sR) hsrc hdst hsem) k) Q) := by
  subst hs'
  unfold SA SAm goA toks
  rw [below_step]
  iintro #Hinv ⟨HO, Hr, Hd, Hp, Hl, HrR, HrS, HtS, HtR⟩ Hk
  iapply (op_send ids tab κ c 0 1 j hn _ _ hS hD (credit_ra j) hsS hsR (OA_step c j) fullShare (pieceV ids tab c (pr c j))
    (by show _ ⊢ some' c (pcM (pr c j)); unfold some'; iintro H; iexists _; iexact H)
    (by show _ ⊢ (ownsTc (pr c j) (raM j) fullShare (pieceV ids tab (pr (pr c j) j) (pr c j)) : sProp 𝕄); rw [pr_pr])) $$ Hinv [HO Hp Hl HrR HrS HtS HtR]
  · isplitl [HO]; · iexact HO
    isplitl [Hp]; · iexact Hp
    isplitl [Hl]; · iexact Hl
    isplitl [HrR]; · iexact HrR
    isplitl [HrS]; · iexact HrS
    isplitl [HtS]; · iexact HtS
    iexact HtR
  iintro ⟨HO, Hc⟩; iapply Hk
  isplitl [HO]; · iexact HO
  isplitl [Hr]; · iexact Hr
  isplitl [Hc]; · unfold doneQ; iexact Hc
  iexact Hd

theorem st_C {s : ℕ} (hs : s = j.val) {s' : ℕ} (hs' : s' = j.val + 1) {n : Dev nD} (hn : n = pr c j) {src dst : Memref sig .tc .vmem S64x512 .bf16} (hS : src = redM) (hD : dst = rbM j)
    {sS sR : DmaSem sig} (hsS : sS = dq 2 j) (hsR : sR = dq 3 j) {hsc : dst.view.ref.isScScratch = false} {hsrc : src.view.WordExact} {hdst : dst.view.WordExact}
    {hsem : DmaTarget.Typed .vmem (.dma sR) (.remote (Dev.tc n) dst (.dma sS) hsc)} {k : PUnit → Prog (TpuEff nD τ sig (Elt F) Λ₀ .tc) α} :
    invs ids tab κ ⊢ iprop(SC ids tab c s -∗ (SC ids tab c s' -∗ WP c (k ⟨⟩) Q)
      -∗ WP c (.op (.enqueueDma src (.remote (Dev.tc n) dst (.dma sS) hsc) (.dma sR) hsrc hdst hsem) k) Q) := by
  subst hs
  subst hs'
  unfold SC
  rw [below_step, above_step]
  unfold resC toks
  iintro #Hinv ⟨HO, ⟨⟨Hp, Hl, HrR, HrS, HtS, HtR⟩, Hr⟩, Hd⟩ Hk
  iapply (op_send ids tab κ c 2 3 j hn _ _ hS hD (credit_rb j) hsS hsR (OB_step c j) (shr j) (redV ids tab c)
    (by show _ ⊢ (ownsTc c redM (shr j) (redV ids tab c) : sProp 𝕄); exact .rfl)
    (by show _ ⊢ (ownsTc (pr c j) (rbM j) fullShare (redV ids tab (pr (pr c j) j)) : sProp 𝕄); rw [pr_pr])) $$ Hinv [HO Hp Hl HrR HrS HtS HtR]
  · isplitl [HO]; · iexact HO
    isplitl [Hp]; · iexact Hp
    isplitl [Hl]; · iexact Hl
    isplitl [HrR]; · iexact HrR
    isplitl [HrS]; · iexact HrS
    isplitl [HtS]; · iexact HtS
    iexact HtR
  iintro ⟨HO, Hc⟩; iapply Hk
  isplitl [HO]; · iexact HO
  isplitl [Hr]; · iexact Hr
  isplitl [Hc]; · unfold doneQ; iexact Hc
  iexact Hd

theorem st_W1 {s : ℕ} (hs : s = j.val) (q q' : Fin 4) (t : ℕ) (hq : q.val < 3 ∨ t = 7) {sem : DmaSem sig} (hm : sem = dq q j) {s₁ s₂ : Shape} {e e' : EltTy} {src : Memref sig .tc .vmem s₂ e'}
    {dst : Memref sig .tc .vmem s₁ e} {D : Memref sig .tc .vmem s₁ e} (hD : dst = D) (hN : D.view.dmaCredit = N) {hsrc hdst} {k : PUnit → Prog (TpuEff nD τ sig (Elt F) Λ₀ .tc) α} :
    invs ids tab κ ⊢ iprop(levAts L lv -∗ SW ids tab c q q' t s -∗ (SWm ids tab c q q' t j -∗ WP c (k ⟨⟩) Q)
      -∗ WP c (.op (.waitDma2 sem src dst hsrc hdst) k) Q) := by
  subst hs
  subst hD
  unfold SW SWm
  rw [above_step]
  unfold resW doneQ
  iintro #Hinv #Hlev ⟨HO, ⟨⟨⟨Hc, Ha⟩, Hn⟩, Hr⟩, Hd⟩ Hk
  iapply (op_wait ids tab κ c q j hm hN (mayWait_dma c q j t hq)) $$ Hinv Hlev [HO Hc Ha]
  · isplitl [HO]; · iexact HO
    isplitl [Hc]; · iexact Hc
    iexact Ha
  iintro ⟨HO, Ha, Hp⟩; iapply Hk
  isplitl [HO]; · iexact HO
  isplitl [Hr]; · iexact Hr
  isplitl [Hd]; · iexact Hd
  isplitl [Ha Hp]
  · isplitl [Ha]; · iexact Ha
    iexact Hp
  iexact Hn

theorem st_W2 {s' : ℕ} (hs' : s' = j.val + 1) (q q' : Fin 4) (t : ℕ) (hq : q'.val < 3 ∨ t = 7) {sem : DmaSem sig} (hm : sem = dq q' j) {s₁ s₂ : Shape} {e e' : EltTy} {src : Memref sig .tc .vmem s₂ e'}
    {dst : Memref sig .tc .vmem s₁ e} {D : Memref sig .tc .vmem s₁ e} (hD : dst = D) (hN : D.view.dmaCredit = N) {hsrc hdst} {k : PUnit → Prog (TpuEff nD τ sig (Elt F) Λ₀ .tc) α} :
    invs ids tab κ ⊢ iprop(levAts L lv -∗ SWm ids tab c q q' t j -∗ (SW ids tab c q q' t s' -∗ WP c (k ⟨⟩) Q)
      -∗ WP c (.op (.waitDma2 sem src dst hsrc hdst) k) Q) := by
  subst hs'
  subst hD
  unfold SW SWm
  rw [below_step]
  unfold gotW doneQ
  iintro #Hinv #Hlev ⟨HO, Hr, Hd, Hn, ⟨Hc, Ha⟩⟩ Hk
  iapply (op_wait ids tab κ c q' j hm hN (mayWait_dma c q' j t hq)) $$ Hinv Hlev [HO Hc Ha]
  · isplitl [HO]; · iexact HO
    isplitl [Hc]; · iexact Hc
    iexact Ha
  iintro ⟨HO, Ha, Hp⟩; iapply Hk
  isplitl [HO]; · iexact HO
  isplitl [Hr]; · iexact Hr
  isplitr [Hd]
  · isplitl [Hn]; · iexact Hn
    isplitl [Ha]; · iexact Ha
    iexact Hp
  iexact Hd

/-- Loading what the `j`-th pair of waits of the first exchange has brought; -/
theorem st_Wra {s' : ℕ} (hs' : s' = j.val + 1) (t : ℕ) {off : Fin 3 → ℕ} {h : ∀ a, off a + S1x64x512.size a ≤ S7x64x512.size a} (ho : off = ![j.val, 0, 0])
    {hl : ra3M.view.LoadsAt (Rect.unit (s := S7x64x512) off S1x64x512.size h).toLoadRect}
    {k : ((Rect.unit (s := S7x64x512) off S1x64x512.size h).toLoadRect.shape.Idx → Elt F .bf16) → Prog (TpuEff nD τ sig (Elt F) Λ₀ .tc) α} :
    SW ids tab c 0 1 t s' ⊢ iprop((SW ids tab c 0 1 t s' -∗ WP c (k (inV ids tab c j)) Q)
      -∗ WP c (.op (.load ra3M (Rect.unit (s := S7x64x512) off S1x64x512.size h).toLoadRect hl) k) Q) := by
  subst hs'
  unfold SW
  rw [below_step]
  unfold gotW
  iintro ⟨HO, Hr, ⟨Hn, Ha, Hp⟩, Hd⟩ Hk
  ihave Hp := (show dmaPay ids tab c 1 j ⊢ ownsTc c (raM j) fullShare (pieceV ids tab (pr c j) c) from .rfl) $$ Hp
  iapply (ld_ra c j ho _) $$ Hp
  iintro Hp; iapply Hk
  isplitl [HO]; · iexact HO
  isplitl [Hr]; · iexact Hr
  isplitr [Hd]
  · isplitl [Hn]; · iexact Hn
    isplitl [Ha]; · iexact Ha
    iapply (show ownsTc c (raM j) fullShare (pieceV ids tab (pr c j) c) ⊢ dmaPay ids tab c 1 j from .rfl)
    iexact Hp
  iexact Hd

/-- and of the second. -/
theorem st_Wrb {s' : ℕ} (hs' : s' = j.val + 1) (t : ℕ) {off : Fin 3 → ℕ} {h : ∀ a, off a + S1x64x512.size a ≤ S7x64x512.size a} (ho : off = ![j.val, 0, 0])
    {hl : rb3M.view.LoadsAt (Rect.unit (s := S7x64x512) off S1x64x512.size h).toLoadRect}
    {k : ((Rect.unit (s := S7x64x512) off S1x64x512.size h).toLoadRect.shape.Idx → Elt F .bf16) → Prog (TpuEff nD τ sig (Elt F) Λ₀ .tc) α} :
    SW ids tab c 2 3 t s' ⊢ iprop((SW ids tab c 2 3 t s' -∗ WP c (k (up (redV ids tab (pr c j)))) Q)
      -∗ WP c (.op (.load rb3M (Rect.unit (s := S7x64x512) off S1x64x512.size h).toLoadRect hl) k) Q) := by
  subst hs'
  unfold SW
  rw [below_step]
  unfold gotW
  iintro ⟨HO, Hr, ⟨Hn, Ha, Hp⟩, Hd⟩ Hk
  ihave Hp := (show dmaPay ids tab c 3 j ⊢ ownsTc c (rbM j) fullShare (redV ids tab (pr c j)) from .rfl) $$ Hp
  iapply (ld_rb c j ho _) $$ Hp
  iintro Hp; iapply Hk
  isplitl [HO]; · iexact HO
  isplitl [Hr]; · iexact Hr
  isplitr [Hd]
  · isplitl [Hn]; · iexact Hn
    isplitl [Ha]; · iexact Ha
    iapply (show ownsTc c (rbM j) fullShare (redV ids tab (pr c j)) ⊢ dmaPay ids tab c 3 j from .rfl)
    iexact Hp
  iexact Hd

theorem st_U1 {s : ℕ} (hs : s = j.val) {off : Fin 2 → ℕ} {h : ∀ a, off a + S64x512.size a ≤ S512x512.size a} (ho : off = ![64 * (pr c j).val, 0])
    {hl : outM.view.LoadsAt (Rect.unit (s := S512x512) off S64x512.size h).toLoadRect} {k : Prog (TpuEff nD τ sig (Elt F) Λ₀ .tc) α} :
    SU ids tab c s ⊢ iprop((SU ids tab c s -∗ WP c k Q) -∗ WP c (.op (.load outM (Rect.unit (s := S512x512) off S64x512.size h).toLoadRect hl) fun _ => k) Q) := by
  subst hs
  unfold SU
  rw [above_step]
  iintro ⟨⟨Hp, Hr⟩, Hd⟩ Hk
  iapply (ld_out c (pr c j) ho) $$ Hp
  iintro Hp; iapply Hk
  isplitr [Hd]
  · isplitl [Hp]; · iexact Hp
    iexact Hr
  iexact Hd

theorem st_U2 {s : ℕ} (hs : s = j.val) {s' : ℕ} (hs' : s' = j.val + 1) {off : Fin 2 → ℕ} {h : ∀ a, off a + S64x512.size a ≤ S512x512.size a} (ho : off = ![64 * (pr c j).val, 0])
    {w : (Rect.unit (s := S512x512) off S64x512.size h).shape.Idx → Elt F .f32} (hw : w = k0_pay1 (up (redV ids tab (pr c j))))
    {hx : (outM.access (Rect.unit (s := S512x512) off S64x512.size h)).Stores Finset.univ} {hm} {k : PUnit → Prog (TpuEff nD τ sig (Elt F) Λ₀ .tc) α} :
    SU ids tab c s ⊢ iprop((SU ids tab c s' -∗ WP c (k ⟨⟩) Q)
      -∗ WP c (.op (.store outM (Rect.unit (s := S512x512) off S64x512.size h) w Finset.univ hx hm) k) Q) := by
  subst hs
  subst hs'
  unfold SU
  rw [above_step, below_step]
  unfold gotU
  iintro ⟨⟨Hp, Hr⟩, Hd⟩ Hk
  iapply (st_out c (pr c j) ho (blockV ids tab c (pr c j)) (hw.trans (if_neg (pr_ne c j)).symm)) $$ Hp
  iintro Hp; iapply Hk
  isplitl [Hr]; · iexact Hr
  isplitl [Hp]; · iexact Hp
  iexact Hd
end Steps

/-! ## The slots and the semaphores of the arrays -/

theorem raM_eq (j : Fin 7) {off : Fin 3 → ℕ} {h : ∀ a, off a + S1x64x512.size a ≤ S7x64x512.size a} (ho : off = ![j.val, 0, 0]) :
    (ra3M.slice (Rect.unit (s := S7x64x512) off S1x64x512.size h) (fun _ => rfl)).squeeze S64x512 squeezes_S1x64x512_S64x512 = raM j := by subst ho; rfl
theorem rbM_eq (j : Fin 7) {off : Fin 3 → ℕ} {h : ∀ a, off a + S1x64x512.size a ≤ S7x64x512.size a} (ho : off = ![j.val, 0, 0]) :
    (rb3M.slice (Rect.unit (s := S7x64x512) off S1x64x512.size h) (fun _ => rfl)).squeeze S64x512 squeezes_S1x64x512_S64x512 = rbM j := by subst ho; rfl

section Sems
variable (j : Fin 7) {off : Fin 1 → ℕ} {h : ∀ a, off a + S1.size a ≤ S7.size a}
theorem sem_at (base : ℕ) (hb : base + S7.numel ≤ 31) (ho : off = ![j.val]) :
    (((SemArray.consecutive base S7 hb : DmaSems sig S7).slice (Rect.unit (s := S7) off S1.size h)).squeeze S_ squeezes_S1_S_).sem.val = base + j.val := by
  subst ho
  generalize hi : Shape.reshapeEquiv (Shape.Squeezes.numel_eq squeezes_S1_S_) (fun i => i.elim0) = i
  show base + (S7.rowMajor ((Rect.unit (s := S7) ![j.val] S1.size h).emb
    (Shape.reshapeEquiv (Shape.Squeezes.numel_eq squeezes_S1_S_) (fun i => i.elim0)))).val = _
  rw [hi]
  refine (congrArg (base + ·) (Shape.rowMajor_val_one _)).trans ?_
  show base + (j.val + 1 * (i 0).val) = _
  have : (i 0).val < 1 := (i 0).isLt
  omega
theorem sem0 (ho : off = ![j.val]) : ((cc0_scratch4.slice (Rect.unit (s := S7) off S1.size h)).squeeze S_ squeezes_S1_S_).sem = dq 0 j :=
  Fin.ext ((sem_at j 3 hcc0_scratch4 ho).trans (by show _ = 3 + 7 * 0 + j.val; omega))
theorem sem1 (ho : off = ![j.val]) : ((cc0_scratch5.slice (Rect.unit (s := S7) off S1.size h)).squeeze S_ squeezes_S1_S_).sem = dq 1 j :=
  Fin.ext ((sem_at j 10 hcc0_scratch5 ho).trans (by show _ = 3 + 7 * 1 + j.val; omega))
theorem sem2 (ho : off = ![j.val]) : ((cc0_scratch6.slice (Rect.unit (s := S7) off S1.size h)).squeeze S_ squeezes_S1_S_).sem = dq 2 j :=
  Fin.ext ((sem_at j 17 hcc0_scratch6 ho).trans (by show _ = 3 + 7 * 2 + j.val; omega))
theorem sem3 (ho : off = ![j.val]) : ((cc0_scratch7.slice (Rect.unit (s := S7) off S1.size h)).squeeze S_ squeezes_S1_S_).sem = dq 3 j :=
  Fin.ext ((sem_at j 24 hcc0_scratch7 ho).trans (by show _ = 3 + 7 * 3 + j.val; omega))
end Sems

theorem dev1 (c : Dev nD) : (⟨k0_dev1 c, k0_dev1_lt c⟩ : Dev nD) = pr c 0 := by revert c; decide
theorem dev2 (c : Dev nD) : (⟨k0_dev2 c, k0_dev2_lt c⟩ : Dev nD) = pr c 1 := by revert c; decide
theorem dev3 (c : Dev nD) : (⟨k0_dev3 c, k0_dev3_lt c⟩ : Dev nD) = pr c 2 := by revert c; decide
theorem dev4 (c : Dev nD) : (⟨k0_dev4 c, k0_dev4_lt c⟩ : Dev nD) = pr c 3 := by revert c; decide
theorem dev5 (c : Dev nD) : (⟨k0_dev5 c, k0_dev5_lt c⟩ : Dev nD) = pr c 4 := by revert c; decide
theorem dev6 (c : Dev nD) : (⟨k0_dev6 c, k0_dev6_lt c⟩ : Dev nD) = pr c 5 := by revert c; decide
theorem dev7 (c : Dev nD) : (⟨k0_dev7 c, k0_dev7_lt c⟩ : Dev nD) = pr c 6 := by revert c; decide
theorem dev8 (c : Dev nD) : (⟨k0_dev8 c, k0_dev8_lt c⟩ : Dev nD) = pr c 0 := by revert c; decide
theorem dev9 (c : Dev nD) : (⟨k0_dev9 c, k0_dev9_lt c⟩ : Dev nD) = pr c 1 := by revert c; decide
theorem dev10 (c : Dev nD) : (⟨k0_dev10 c, k0_dev10_lt c⟩ : Dev nD) = pr c 2 := by revert c; decide
theorem dev11 (c : Dev nD) : (⟨k0_dev11 c, k0_dev11_lt c⟩ : Dev nD) = pr c 3 := by revert c; decide
theorem dev12 (c : Dev nD) : (⟨k0_dev12 c, k0_dev12_lt c⟩ : Dev nD) = pr c 4 := by revert c; decide
theorem dev13 (c : Dev nD) : (⟨k0_dev13 c, k0_dev13_lt c⟩ : Dev nD) = pr c 5 := by revert c; decide
theorem dev14 (c : Dev nD) : (⟨k0_dev14 c, k0_dev14_lt c⟩ : Dev nD) = pr c 6 := by revert c; decide
theorem dev15 (c : Dev nD) : (⟨k0_dev15 c, k0_dev15_lt c⟩ : Dev nD) = pr c 0 := by revert c; decide
theorem dev16 (c : Dev nD) : (⟨k0_dev16 c, k0_dev16_lt c⟩ : Dev nD) = pr c 1 := by revert c; decide
theorem dev17 (c : Dev nD) : (⟨k0_dev17 c, k0_dev17_lt c⟩ : Dev nD) = pr c 2 := by revert c; decide
theorem dev18 (c : Dev nD) : (⟨k0_dev18 c, k0_dev18_lt c⟩ : Dev nD) = pr c 3 := by revert c; decide
theorem dev19 (c : Dev nD) : (⟨k0_dev19 c, k0_dev19_lt c⟩ : Dev nD) = pr c 4 := by revert c; decide
theorem dev20 (c : Dev nD) : (⟨k0_dev20 c, k0_dev20_lt c⟩ : Dev nD) = pr c 5 := by revert c; decide
theorem dev21 (c : Dev nD) : (⟨k0_dev21 c, k0_dev21_lt c⟩ : Dev nD) = pr c 6 := by revert c; decide

end Cert.KernelIdeal.Talk

end
-- ==== Proof.Parts.lean ====
/-
# The parts of the kernel's body

What each part of the body does to what the device holds, from one state of `Phases` to the next.
-/
module

public import proofs.«01_k».proof.Proof.Phases

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ids : Dev nD → Vec F S512x1 .i32) (tab : Dev nD → Vec F S4096x512 .bf16) (κ : GSem nD τ sig → ℕ)

section Parts
variable (c : Dev nD)

/-! ## From one phase to the next -/

/-- The share of the sum's buffer that no copy reads from. -/
def lastShare : PosShare TreeShare := ShareLeaves.leaf 3 fullShare 7
/-- What the `j`-th copy of the first exchange needs besides what the barrier brings; -/
def ownA (j : Fin 7) : sProp 𝕄 := iprop(some' c (pcM (pr c j)) ∗ reached ER (dC 0 c j) 0 ∗ dutyTok ER (dC 0 c j) 0 0 ∗ dutyTok ER (dC 1 (pr c j) j) 0 0)
/-- and of the second exchange, besides the share and what the barrier brings. -/
def ownC (j : Fin 7) : sProp 𝕄 := iprop(reached ER (dC 2 c j) 0 ∗ dutyTok ER (dC 2 c j) 0 0 ∗ dutyTok ER (dC 3 (pr c j) j) 0 0)
def preA : sProp 𝕄 := bigSep Finset.univ (ownA (F := F) c)
/-- What the barrier brings for the second exchange. -/
def keepB (j : Fin 7) : sProp 𝕄 := iprop(some' (pr c j) (rbM j) ∗ reached ER (dC 3 (pr c j) j) 0)
def keepC (j : Fin 7) : sProp 𝕄 := iprop(keepB c j ∗ ownC c j)
/-- What the `j`-th pair of waits needs besides the copy's own credit. -/
def restW (q q' : Fin 4) (j : Fin 7) : sProp 𝕄 := iprop(atPos ER (dC q c j) 0 ∅ 0 ∗ (doneQ c q' j ∗ atPos ER (dC q' c j) 0 ∅ 0))

theorem wp_done {α : Type} {Q : α → sProp (MT nD τ sig Unit (Elt F) ℕ UU ℕ)} (a : α) : Q a ⊢ WP c (.ret a) Q := by
  show Q a ⊢ wp _ _ _ (.ret a) Q
  rw [wp_ret]
  iintro H
  imodintro
  iexact H

theorem barrier_pre : (SB c 7 : sProp 𝕄) ⊢ iprop((cred (tallyAt (barC c) () 7) ∗ atPos ER (barC c) 0 ∅ 0)
    -∗ (ow c (OS c 7) ∗ cred (tallyAt (barC c) () 7) ∗ atPos ER (barC c) 0 ∅ 0)) := by
  unfold SB
  iintro ⟨HO, H⟩ Hb
  isplitl [HO]; · iexact HO
  iexact Hb

theorem barrier_post : (iprop(ow c (OS c 7) ∗ atPos ER (barC c) 1 ∅ 0 ∗ bigSep Finset.univ fun j => barPay c j) : sProp 𝕄)
    ⊢ iprop(preA c -∗ (atPos ER (barC c) 1 ∅ 0 ∗ SA c 0 ∗ bigSep Finset.univ (keepB c))) := by
  unfold SA preA
  rw [show OS c 7 = OA c 0 from OS_end c, above_zero, below_zero]
  iintro ⟨HO, Hb, Hp⟩ HP
  isplitl [Hb]; · iexact Hb
  ihave H := (show (iprop((bigSep Finset.univ fun j => barPay c j) ∗ bigSep Finset.univ (ownA (F := F) c)) : sProp 𝕄)
      ⊢ iprop(bigSep Finset.univ (resA c) ∗ bigSep Finset.univ (keepB c)) from by
    rw [← bigSep_sep', ← bigSep_sep']
    refine bigSep_mono fun j _ => ?_
    show (iprop(barPay c j ∗ ownA c j) : sProp 𝕄) ⊢ iprop(resA c j ∗ keepB c j)
    unfold barPay ownA resA goA toks keepB
    iintro ⟨⟨Ha, Hb, Hr, Hr'⟩, Hx, Hd, Ht, Ht'⟩
    isplitr [Hb Hr']
    · isplitl [Hx]; · iexact Hx
      isplitl [Ha]; · iexact Ha
      isplitl [Hr]; · iexact Hr
      isplitl [Hd]; · iexact Hd
      isplitl [Ht]; · iexact Ht
      iexact Ht'
    isplitl [Hb]; · iexact Hb
    iexact Hr') $$ [Hp HP]
  · isplitl [Hp]; · iexact Hp
    iexact HP
  icases H with ⟨HA, HB⟩
  isplitr [HB]
  · isplitl [HO]; · iexact HO
    isplitl [HA]; · iexact HA
    iempintro
  iexact HB

theorem red_leaves : (ownsTc c redM fullShare (redV ids tab c) : sProp 𝕄)
    = iprop(ownsTc c redM lastShare (redV ids tab c) ∗ bigSep Finset.univ fun j => ownsTc c redM (shr j) (redV ids tab c)) := by
  have hs : (Finset.univ : Finset (Fin (2 ^ 3))) = insert (7 : Fin 8) (Finset.univ.map (Fin.castLEEmb (show 7 ≤ 8 by decide))) := by decide
  have e' : ∀ q, (ownsTc c redM q (redV ids tab c) : sProp 𝕄) = (redM.view.loc (c : Thread nD τ) ↦{q} redV ids tab c) := fun q => by
    rw [owns_red]
    refine BI.Entails.antisymm ?_ ?_
    · show (iprop(∃ f : Buf (Elt F) (redM.view.loc (c : Thread nD τ)), ⌜f = redV ids tab c⌝ ∗ (redM.view.loc (c : Thread nD τ) ↦{q} f)) : sProp 𝕄) ⊢ (redM.view.loc (c : Thread nD τ) ↦{q} redV ids tab c)
      iintro ⟨%f, %hf, H⟩
      subst hf
      iexact H
    · show ((redM.view.loc (c : Thread nD τ) ↦{q} redV ids tab c) : sProp 𝕄) ⊢ iprop(∃ f : Buf (Elt F) (redM.view.loc (c : Thread nD τ)), ⌜f = redV ids tab c⌝ ∗ (redM.view.loc (c : Thread nD τ) ↦{q} f))
      iintro H
      iexists (redV ids tab c)
      isplitr; · ipureintro; rfl
      iexact H
  have e : (ownsTc c redM fullShare (redV ids tab c) : sProp 𝕄)
      = bigSep (Finset.univ : Finset (Fin (2 ^ 3))) fun i => ownsTc c redM (ShareLeaves.leaf 3 fullShare i) (redV ids tab c) := by
    simp only [e']
    exact ShareLeaves.pointsTo_leaves _ _ 3 fullShare
  rw [e, show (bigSep (Finset.univ : Finset (Fin (2 ^ 3))) fun i => ownsTc c redM (ShareLeaves.leaf 3 fullShare i) (redV ids tab c) : sProp 𝕄)
      = iprop(ownsTc c redM lastShare (redV ids tab c) ∗ bigSep Finset.univ fun j => ownsTc c redM (shr j) (redV ids tab c)) from by
    rw [hs, bigSep_insert (by decide), bigSep_map]; rfl]

theorem red_shares : (ownsTc c redM fullShare (redV ids tab c) : sProp 𝕄)
    ⊢ iprop((bigSep Finset.univ fun j => ownsTc c redM (shr j) (redV ids tab c)) ∗ ownsTc c redM lastShare (redV ids tab c)) := by
  rw [red_leaves]
  iintro ⟨Hl, Hs⟩
  isplitl [Hs]; · iexact Hs
  iexact Hl

theorem open_C : (SW ids tab c 0 1 0 7 : sProp 𝕄) ⊢ iprop(ownsTc c redM fullShare (redV ids tab c) -∗ bigSep Finset.univ (keepC c)
    -∗ (SC ids tab c 0 ∗ bigSep Finset.univ (gotW ids tab c 0 1) ∗ ownsTc c redM lastShare (redV ids tab c))) := by
  unfold SW SC
  rw [above_zero, below_zero, above_end, below_end]
  iintro ⟨HO, He, HG⟩ Hr HK
  ihave H := (red_shares ids tab c) $$ Hr
  icases H with ⟨Hs, Hl⟩
  ihave H := (show (iprop((bigSep Finset.univ fun j => ownsTc c redM (shr j) (redV ids tab c)) ∗ bigSep Finset.univ (keepC (F := F) c)) : sProp 𝕄)
      ⊢ bigSep Finset.univ (resC ids tab c) from by
    rw [← bigSep_sep']
    refine bigSep_mono fun j _ => ?_
    show (iprop(ownsTc c redM (shr j) (redV ids tab c) ∗ keepC c j) : sProp 𝕄) ⊢ resC ids tab c j
    unfold keepC keepB ownC resC toks
    iintro ⟨Hs, ⟨Hb, Hr⟩, Hd, Ht, Ht'⟩
    isplitl [Hs]; · iexact Hs
    isplitl [Hb]; · iexact Hb
    isplitl [Hr]; · iexact Hr
    isplitl [Hd]; · iexact Hd
    isplitl [Ht]; · iexact Ht
    iexact Ht') $$ [Hs HK]
  · isplitl [Hs]; · iexact Hs
    iexact HK
  isplitl [HO H]
  · isplitl [HO]; · iexact HO
    isplitl [H]; · iexact H
    iempintro
  isplitl [HG]; · iexact HG
  iexact Hl

theorem pair_up (q q' : Fin 4) : (iprop(bigSep Finset.univ (doneQ (F := F) c q) ∗ bigSep Finset.univ (restW (F := F) c q q')) : sProp 𝕄)
    ⊢ bigSep Finset.univ (resW c q q') := by
  rw [← bigSep_sep']
  refine bigSep_mono fun j _ => ?_
  show (iprop(doneQ c q j ∗ restW c q q' j) : sProp 𝕄) ⊢ resW c q q' j
  unfold restW resW
  iintro ⟨Hc, Ha, H⟩
  isplitl [Hc Ha]
  · isplitl [Hc]; · iexact Hc
    iexact Ha
  iexact H

/-- From the copies issued to the waits: of the first exchange, -/
theorem open_V : (SA c 7 : sProp 𝕄) ⊢ iprop(bigSep Finset.univ (restW c 0 1) -∗ SW ids tab c 0 1 0 0) := by
  unfold SW SA
  rw [show OA c 7 = OB c 0 from OA_end c, above_zero, below_zero, above_end, below_end]
  iintro ⟨HO, He, HG⟩ HA
  isplitl [HO]; · iexact HO
  isplitl [HG HA]
  · iapply (pair_up c 0 1)
    isplitl [HG]; · iexact HG
    iexact HA
  iempintro
/-- and of the second. -/
theorem open_W : (SC ids tab c 7 : sProp 𝕄) ⊢ iprop(bigSep Finset.univ (restW c 2 3) -∗ SW ids tab c 2 3 7 0) := by
  unfold SW SC
  rw [above_zero, below_zero, above_end, below_end]
  iintro ⟨HO, He, HG⟩ HA
  isplitl [HO]; · iexact HO
  isplitl [HG HA]
  · iapply (pair_up c 2 3)
    isplitl [HG]; · iexact HG
    iexact HA
  iempintro

theorem keep_C : (bigSep Finset.univ (keepB (F := F) c) : sProp 𝕄) ⊢ iprop(bigSep Finset.univ (ownC c) -∗ bigSep Finset.univ (keepC c)) := by
  unfold keepC
  rw [bigSep_sep']
  iintro H H'
  isplitl [H]; · iexact H
  iexact H'

theorem wp_seq {α β : Type} {p : Prog (TpuEff nD τ sig (Elt F) Λ₀ .tc) α} {k : α → Prog (TpuEff nD τ sig (Elt F) Λ₀ .tc) β}
    {Q : β → sProp (MT nD τ sig Unit (Elt F) ℕ UU ℕ)} : WP c p (fun a => WP c (k a) Q) ⊢ WP c (p >>= k) Q := by
  show _ ⊢ wp _ _ _ (p >>= k) Q
  rw [wp_bind]

/-! ## The parts -/

variable {h0 : idM.IsWhole} {h1 : tabM.IsWhole} {h2 : outM.IsWhole} {h3 : parM.IsWhole} {h4 : ra3M.IsWhole} {h5 : redM.IsWhole} {h6 : rb3M.IsWhole}

/-- Six of the seven signals. -/
theorem part1 : invs ids tab κ ⊢ iprop(levAts L lv -∗ (SB c 0) -∗ ((SB c 6) -∗ Q ⟨c, word c, SemArray.scalar (sig.barrier 0 rfl), Scalar.muli (Scalar.xori (word c) 7#32) 1#32⟩)
    -∗ WP c (k0_part1 (F := F) idM h0 tabM h1 outM h2 parM h3 ra3M h4 redM h5 rb3M h6 cc0_scratch4 cc0_scratch5 cc0_scratch6 cc0_scratch7) Q) := by
  rw [k0_part1_eq_skeleton]
  unfold k0_part1_skel
  simp only [semSignalWord, semWaitWord, Prog.lift, Prog.bind_op, Prog.bind_ret, Prog.pure_eq_ret, wp_deviceId]
  iintro #Hinv #Hlev HS Hk
  iapply (st_signal (s := 0) (s' := 1) ids tab κ c 0 rfl rfl (dev1 c) rfl) $$ Hinv HS
  iintro HS
  iapply (st_signal (s := 1) (s' := 2) ids tab κ c 1 rfl rfl (dev2 c) rfl) $$ Hinv HS
  iintro HS
  iapply (st_signal (s := 2) (s' := 3) ids tab κ c 2 rfl rfl (dev3 c) rfl) $$ Hinv HS
  iintro HS
  iapply (st_signal (s := 3) (s' := 4) ids tab κ c 3 rfl rfl (dev4 c) rfl) $$ Hinv HS
  iintro HS
  iapply (st_signal (s := 4) (s' := 5) ids tab κ c 4 rfl rfl (dev5 c) rfl) $$ Hinv HS
  iintro HS
  iapply (st_signal (s := 5) (s' := 6) ids tab κ c 5 rfl rfl (dev6 c) rfl) $$ Hinv HS
  iintro HS
  iapply (wp_done c)
  iapply Hk $$ HS

/-- The last signal, the wait at the barrier, and the first contribution computed and sent. -/
theorem part2 (v23 : BitVec 32) : invs ids tab κ ⊢ iprop(levAts L lv -∗ (idM.view.loc (c : Thread nD τ) ↦{fullShare} ids c) -∗ (tabM.view.loc (c : Thread nD τ) ↦{fullShare} tab c) -∗ (SB c 6) -∗ (cred (tallyAt (barC c) () 7) ∗ atPos ER (barC c) 0 ∅ 0) -∗ (preA c) -∗ ((idM.view.loc (c : Thread nD τ) ↦{fullShare} ids c) -∗ (tabM.view.loc (c : Thread nD τ) ↦{fullShare} tab c) -∗ (SA c 1) -∗ (atPos ER (barC c) 1 ∅ 0) -∗ (bigSep Finset.univ (keepB c)) -∗ Q ⟨k0_pay2 (tab c), base c, Scalar.xori (word c) 1#32, 2#32⟩)
    -∗ WP c (k0_part2 (F := F) idM h0 tabM h1 outM h2 parM h3 ra3M h4 redM h5 rb3M h6 cc0_scratch4 cc0_scratch5 cc0_scratch6 cc0_scratch7 c (word c) (SemArray.scalar (sig.barrier 0 rfl)) v23) Q) := by
  rw [k0_part2_eq_skeleton]
  unfold k0_part2_skel
  simp only [semSignalWord, semWaitWord, Prog.lift, Prog.bind_op, Prog.bind_ret, Prog.pure_eq_ret, wp_deviceId]
  iintro #Hinv #Hlev Hx Hy HS Hb HP Hk
  iapply (st_signal (s := 6) (s' := 7) ids tab κ c 6 rfl rfl (dev7 c) rfl) $$ Hinv HS
  iintro HS
  iapply (op_barrier ids tab κ c rfl ((show OS c 7 = OA c 0 from OS_end c) ▸ mayWait_bar c : (levAts L lv : sProp (MT nD τ sig Unit (Elt F) ℕ UU ℕ)) ⊢ MayWait (c : Thread nD τ) (.reg barS) () (OS c 7))) $$ Hinv Hlev [HS Hb]
  · iapply (barrier_pre c) $$ HS Hb
  iintro HB
  ihave HA := (barrier_post c) $$ HB HP
  icases HA with ⟨Hb, HS, HR⟩
  iapply (ld_tab c rfl (tab c)) $$ Hy
  iintro Hy
  iapply (ld_ids c (pr c 0) (show k0_off1 c 1#32 = ![64 * (pr c 0).val, 0] from off1_eq c 0) (ids c)) $$ Hx
  iintro Hx
  iapply (st_A1 (s := 0) c 0 rfl (show k0_off2 c 1#32 = ![64 * (pr c 0).val, 0] from off2_eq c 0)) $$ HS
  iintro HS
  iapply (st_A2 (s := 0) ids tab c 0 rfl (show k0_off2 c 1#32 = ![64 * (pr c 0).val, 0] from off2_eq c 0) rfl) $$ HS
  iintro HS
  iapply (st_A3 (s' := 1) ids tab κ c 0 rfl (dev8 c) (pcM_eq (show k0_off3 c 1#32 = ![64 * (pr c 0).val, 0] from off3_eq c 0)) (raM_eq 0 (off := ![0, 0, 0]) rfl) (sem0 0 (off := ![0]) rfl) (sem1 0 (off := ![0]) rfl)) $$ Hinv HS
  iintro HS
  iapply (wp_done c)
  iapply Hk $$ Hx Hy HS Hb HR

/-- The second contribution computed and sent. -/
theorem part3 (w : BitVec 32) : invs ids tab κ ⊢ iprop(levAts L lv -∗ (idM.view.loc (c : Thread nD τ) ↦{fullShare} ids c) -∗ (SA c 1) -∗ ((idM.view.loc (c : Thread nD τ) ↦{fullShare} ids c) -∗ (SA c 2) -∗ Q ⟨Scalar.xori (word c) w, Scalar.xori (word c) 3#32, k0_pay5 (base c) (rowsOf (ids c) (pr c 2))⟩)
    -∗ WP c (k0_part3 (F := F) idM h0 tabM h1 outM h2 parM h3 ra3M h4 redM h5 rb3M h6 cc0_scratch4 cc0_scratch5 cc0_scratch6 cc0_scratch7 c (word c) (k0_pay2 (tab c)) (base c) w) Q) := by
  rw [k0_part3_eq_skeleton]
  unfold k0_part3_skel
  simp only [semSignalWord, semWaitWord, Prog.lift, Prog.bind_op, Prog.bind_ret, Prog.pure_eq_ret, wp_deviceId]
  iintro #Hinv #Hlev Hx HS Hk
  iapply (ld_ids c (pr c 1) (show k0_off1 c 2#32 = ![64 * (pr c 1).val, 0] from off1_eq c 1) (ids c)) $$ Hx
  iintro Hx
  iapply (st_A1 (s := 1) c 1 rfl (show k0_off2 c 2#32 = ![64 * (pr c 1).val, 0] from off2_eq c 1)) $$ HS
  iintro HS
  iapply (st_A2 (s := 1) ids tab c 1 rfl (show k0_off2 c 2#32 = ![64 * (pr c 1).val, 0] from off2_eq c 1) rfl) $$ HS
  iintro HS
  iapply (st_A3 (s' := 2) ids tab κ c 1 rfl (dev9 c) (pcM_eq (show k0_off3 c 2#32 = ![64 * (pr c 1).val, 0] from off3_eq c 1)) (raM_eq 1 (off := ![1, 0, 0]) rfl) (sem0 1 (off := ![1]) rfl) (sem1 1 (off := ![1]) rfl)) $$ Hinv HS
  iintro HS
  iapply (ld_ids c (pr c 2) (show k0_off1 c 3#32 = ![64 * (pr c 2).val, 0] from off1_eq c 2) (ids c)) $$ Hx
  iintro Hx
  iapply (wp_done c)
  iapply Hk $$ Hx HS

/-- The third contribution sent and the fourth computed. -/
theorem part4 (w : BitVec 32) : invs ids tab κ ⊢ iprop(levAts L lv -∗ (idM.view.loc (c : Thread nD τ) ↦{fullShare} ids c) -∗ (SA c 2) -∗ ((idM.view.loc (c : Thread nD τ) ↦{fullShare} ids c) -∗ (SAm ids tab c 3) -∗ Q (Scalar.xori (word c) 4#32))
    -∗ WP c (k0_part4 (F := F) idM h0 tabM h1 outM h2 parM h3 ra3M h4 redM h5 rb3M h6 cc0_scratch4 cc0_scratch5 cc0_scratch6 cc0_scratch7 c (word c) (k0_pay2 (tab c)) (base c) w (k0_pay5 (base c) (rowsOf (ids c) (pr c 2)))) Q) := by
  rw [k0_part4_eq_skeleton]
  unfold k0_part4_skel
  simp only [semSignalWord, semWaitWord, Prog.lift, Prog.bind_op, Prog.bind_ret, Prog.pure_eq_ret, wp_deviceId]
  iintro #Hinv #Hlev Hx HS Hk
  iapply (st_A1 (s := 2) c 2 rfl (show k0_off2 c 3#32 = ![64 * (pr c 2).val, 0] from off2_eq c 2)) $$ HS
  iintro HS
  iapply (st_A2 (s := 2) ids tab c 2 rfl (show k0_off2 c 3#32 = ![64 * (pr c 2).val, 0] from off2_eq c 2) rfl) $$ HS
  iintro HS
  iapply (st_A3 (s' := 3) ids tab κ c 2 rfl (dev10 c) (pcM_eq (show k0_off3 c 3#32 = ![64 * (pr c 2).val, 0] from off3_eq c 2)) (raM_eq 2 (off := ![2, 0, 0]) rfl) (sem0 2 (off := ![2]) rfl) (sem1 2 (off := ![2]) rfl)) $$ Hinv HS
  iintro HS
  iapply (ld_ids c (pr c 3) (show k0_off1 c 4#32 = ![64 * (pr c 3).val, 0] from off1_eq c 3) (ids c)) $$ Hx
  iintro Hx
  iapply (st_A1 (s := 3) c 3 rfl (show k0_off2 c 4#32 = ![64 * (pr c 3).val, 0] from off2_eq c 3)) $$ HS
  iintro HS
  iapply (st_A2 (s := 3) ids tab c 3 rfl (show k0_off2 c 4#32 = ![64 * (pr c 3).val, 0] from off2_eq c 3) rfl) $$ HS
  iintro HS
  iapply (wp_done c)
  iapply Hk $$ Hx HS

/-- The fourth contribution sent and the fifth computed. -/
theorem part5 (w : BitVec 32) : invs ids tab κ ⊢ iprop(levAts L lv -∗ (idM.view.loc (c : Thread nD τ) ↦{fullShare} ids c) -∗ (SAm ids tab c 3) -∗ ((idM.view.loc (c : Thread nD τ) ↦{fullShare} ids c) -∗ (SAm ids tab c 4) -∗ Q (Scalar.xori (word c) 5#32))
    -∗ WP c (k0_part5 (F := F) idM h0 tabM h1 outM h2 parM h3 ra3M h4 redM h5 rb3M h6 cc0_scratch4 cc0_scratch5 cc0_scratch6 cc0_scratch7 c (word c) (k0_pay2 (tab c)) (base c) w) Q) := by
  rw [k0_part5_eq_skeleton]
  unfold k0_part5_skel
  simp only [semSignalWord, semWaitWord, Prog.lift, Prog.bind_op, Prog.bind_ret, Prog.pure_eq_ret, wp_deviceId]
  iintro #Hinv #Hlev Hx HS Hk
  iapply (st_A3 (s' := 4) ids tab κ c 3 rfl (dev11 c) (pcM_eq (show k0_off3 c 4#32 = ![64 * (pr c 3).val, 0] from off3_eq c 3)) (raM_eq 3 (off := ![3, 0, 0]) rfl) (sem0 3 (off := ![3]) rfl) (sem1 3 (off := ![3]) rfl)) $$ Hinv HS
  iintro HS
  iapply (ld_ids c (pr c 4) (show k0_off1 c 5#32 = ![64 * (pr c 4).val, 0] from off1_eq c 4) (ids c)) $$ Hx
  iintro Hx
  iapply (st_A1 (s := 4) c 4 rfl (show k0_off2 c 5#32 = ![64 * (pr c 4).val, 0] from off2_eq c 4)) $$ HS
  iintro HS
  iapply (st_A2 (s := 4) ids tab c 4 rfl (show k0_off2 c 5#32 = ![64 * (pr c 4).val, 0] from off2_eq c 4) rfl) $$ HS
  iintro HS
  iapply (wp_done c)
  iapply Hk $$ Hx HS

/-- The fifth contribution sent, and the sixth computed and sent. -/
theorem part6 : invs ids tab κ ⊢ iprop(levAts L lv -∗ (idM.view.loc (c : Thread nD τ) ↦{fullShare} ids c) -∗ (SAm ids tab c 4) -∗ ((idM.view.loc (c : Thread nD τ) ↦{fullShare} ids c) -∗ (SA c 6) -∗ Q ⟨Scalar.xori (word c) 6#32, Scalar.xori (word c) 7#32⟩)
    -∗ WP c (k0_part6 (F := F) idM h0 tabM h1 outM h2 parM h3 ra3M h4 redM h5 rb3M h6 cc0_scratch4 cc0_scratch5 cc0_scratch6 cc0_scratch7 c (word c) (k0_pay2 (tab c)) (base c)) Q) := by
  rw [k0_part6_eq_skeleton]
  unfold k0_part6_skel
  simp only [semSignalWord, semWaitWord, Prog.lift, Prog.bind_op, Prog.bind_ret, Prog.pure_eq_ret, wp_deviceId]
  iintro #Hinv #Hlev Hx HS Hk
  iapply (st_A3 (s' := 5) ids tab κ c 4 rfl (dev12 c) (pcM_eq (show k0_off3 c 5#32 = ![64 * (pr c 4).val, 0] from off3_eq c 4)) (raM_eq 4 (off := ![4, 0, 0]) rfl) (sem0 4 (off := ![4]) rfl) (sem1 4 (off := ![4]) rfl)) $$ Hinv HS
  iintro HS
  iapply (ld_ids c (pr c 5) (show k0_off1 c 6#32 = ![64 * (pr c 5).val, 0] from off1_eq c 5) (ids c)) $$ Hx
  iintro Hx
  iapply (st_A1 (s := 5) c 5 rfl (show k0_off2 c 6#32 = ![64 * (pr c 5).val, 0] from off2_eq c 5)) $$ HS
  iintro HS
  iapply (st_A2 (s := 5) ids tab c 5 rfl (show k0_off2 c 6#32 = ![64 * (pr c 5).val, 0] from off2_eq c 5) rfl) $$ HS
  iintro HS
  iapply (st_A3 (s' := 6) ids tab κ c 5 rfl (dev13 c) (pcM_eq (show k0_off3 c 6#32 = ![64 * (pr c 5).val, 0] from off3_eq c 5)) (raM_eq 5 (off := ![5, 0, 0]) rfl) (sem0 5 (off := ![5]) rfl) (sem1 5 (off := ![5]) rfl)) $$ Hinv HS
  iintro HS
  iapply (wp_done c)
  iapply Hk $$ Hx HS

/-- The seventh contribution computed and sent, and the device's own computed. -/
theorem part7 (w : BitVec 32) : invs ids tab κ ⊢ iprop(levAts L lv -∗ (idM.view.loc (c : Thread nD τ) ↦{fullShare} ids c) -∗ (SA c 6) -∗ ((idM.view.loc (c : Thread nD τ) ↦{fullShare} ids c) -∗ (SA c 7) -∗ Q (ownV ids tab c))
    -∗ WP c (k0_part7 (F := F) idM h0 tabM h1 outM h2 parM h3 ra3M h4 redM h5 rb3M h6 cc0_scratch4 cc0_scratch5 cc0_scratch6 cc0_scratch7 c (word c) (k0_pay2 (tab c)) (base c) w) Q) := by
  rw [k0_part7_eq_skeleton]
  unfold k0_part7_skel
  simp only [semSignalWord, semWaitWord, Prog.lift, Prog.bind_op, Prog.bind_ret, Prog.pure_eq_ret, wp_deviceId]
  iintro #Hinv #Hlev Hx HS Hk
  iapply (ld_ids c (pr c 6) (show k0_off1 c 7#32 = ![64 * (pr c 6).val, 0] from off1_eq c 6) (ids c)) $$ Hx
  iintro Hx
  iapply (st_A1 (s := 6) c 6 rfl (show k0_off2 c 7#32 = ![64 * (pr c 6).val, 0] from off2_eq c 6)) $$ HS
  iintro HS
  iapply (st_A2 (s := 6) ids tab c 6 rfl (show k0_off2 c 7#32 = ![64 * (pr c 6).val, 0] from off2_eq c 6) rfl) $$ HS
  iintro HS
  iapply (st_A3 (s' := 7) ids tab κ c 6 rfl (dev14 c) (pcM_eq (show k0_off3 c 7#32 = ![64 * (pr c 6).val, 0] from off3_eq c 6)) (raM_eq 6 (off := ![6, 0, 0]) rfl) (sem0 6 (off := ![6]) rfl) (sem1 6 (off := ![6]) rfl)) $$ Hinv HS
  iintro HS
  iapply (ld_ids c c (off4_eq c) (ids c)) $$ Hx
  iintro Hx
  iapply (wp_done c)
  iapply Hk $$ Hx HS

/-- The first arrival added. -/
theorem part8 (w w' : BitVec 32) : invs ids tab κ ⊢ iprop(levAts L lv -∗ (SW ids tab c 0 1 0 0) -∗ ((SWm ids tab c 0 1 0 1) -∗ Q (acc0 ids tab c))
    -∗ WP c (k0_part8 (F := F) idM h0 tabM h1 outM h2 parM h3 ra3M h4 redM h5 rb3M h6 cc0_scratch4 cc0_scratch5 cc0_scratch6 cc0_scratch7 c w w' (ownV ids tab c)) Q) := by
  rw [k0_part8_eq_skeleton]
  unfold k0_part8_skel
  simp only [semSignalWord, semWaitWord, Prog.lift, Prog.bind_op, Prog.bind_ret, Prog.pure_eq_ret, wp_deviceId]
  iintro #Hinv #Hlev HS Hk
  iapply (st_W1 (s := 0) ids tab κ c 0 rfl 0 1 0 (.inl (by decide)) (sem0 0 (off := ![0]) rfl) (pcM_eq (show k0_off3 c 1#32 = ![64 * (pr c 0).val, 0] from off3_eq c 0)) (credit_pc _)) $$ Hinv Hlev HS
  iintro HS
  iapply (st_W2 (s' := 1) ids tab κ c 0 rfl 0 1 0 (.inl (by decide)) (sem1 0 (off := ![0]) rfl) (raM_eq 0 (off := ![0, 0, 0]) rfl) (credit_ra _)) $$ Hinv Hlev HS
  iintro HS
  iapply (st_Wra (s' := 1) ids tab c 0 rfl 0 (off := ![0, 0, 0]) rfl) $$ HS
  iintro HS
  iapply (st_W1 (s := 1) ids tab κ c 1 rfl 0 1 0 (.inl (by decide)) (sem0 1 (off := ![1]) rfl) (pcM_eq (show k0_off3 c 2#32 = ![64 * (pr c 1).val, 0] from off3_eq c 1)) (credit_pc _)) $$ Hinv Hlev HS
  iintro HS
  iapply (wp_done c)
  iapply Hk $$ HS

/-- The second and third arrivals added. -/
theorem part9 (w : BitVec 32) : invs ids tab κ ⊢ iprop(levAts L lv -∗ (SWm ids tab c 0 1 0 1) -∗ ((SWm ids tab c 0 1 0 3) -∗ Q ⟨acc2 ids tab c, 1#32⟩)
    -∗ WP c (k0_part9 (F := F) idM h0 tabM h1 outM h2 parM h3 ra3M h4 redM h5 rb3M h6 cc0_scratch4 cc0_scratch5 cc0_scratch6 cc0_scratch7 c w (acc0 ids tab c)) Q) := by
  rw [k0_part9_eq_skeleton]
  unfold k0_part9_skel
  simp only [semSignalWord, semWaitWord, Prog.lift, Prog.bind_op, Prog.bind_ret, Prog.pure_eq_ret, wp_deviceId]
  iintro #Hinv #Hlev HS Hk
  iapply (st_W2 (s' := 2) ids tab κ c 1 rfl 0 1 0 (.inl (by decide)) (sem1 1 (off := ![1]) rfl) (raM_eq 1 (off := ![1, 0, 0]) rfl) (credit_ra _)) $$ Hinv Hlev HS
  iintro HS
  iapply (st_Wra (s' := 2) ids tab c 1 rfl 0 (off := ![1, 0, 0]) rfl) $$ HS
  iintro HS
  iapply (st_W1 (s := 2) ids tab κ c 2 rfl 0 1 0 (.inl (by decide)) (sem0 2 (off := ![2]) rfl) (pcM_eq (show k0_off3 c 3#32 = ![64 * (pr c 2).val, 0] from off3_eq c 2)) (credit_pc _)) $$ Hinv Hlev HS
  iintro HS
  iapply (st_W2 (s' := 3) ids tab κ c 2 rfl 0 1 0 (.inl (by decide)) (sem1 2 (off := ![2]) rfl) (raM_eq 2 (off := ![2, 0, 0]) rfl) (credit_ra _)) $$ Hinv Hlev HS
  iintro HS
  iapply (st_Wra (s' := 3) ids tab c 2 rfl 0 (off := ![2, 0, 0]) rfl) $$ HS
  iintro HS
  iapply (st_W1 (s := 3) ids tab κ c 3 rfl 0 1 0 (.inl (by decide)) (sem0 3 (off := ![3]) rfl) (pcM_eq (show k0_off3 c 4#32 = ![64 * (pr c 3).val, 0] from off3_eq c 3)) (credit_pc _)) $$ Hinv Hlev HS
  iintro HS
  iapply (wp_done c)
  iapply Hk $$ HS

/-- The fourth and fifth arrivals added. -/
theorem part10 (w w' w'' : BitVec 32) : invs ids tab κ ⊢ iprop(levAts L lv -∗ (SWm ids tab c 0 1 0 3) -∗ ((SW ids tab c 0 1 0 5) -∗ Q (acc4 ids tab c))
    -∗ WP c (k0_part10 (F := F) idM h0 tabM h1 outM h2 parM h3 ra3M h4 redM h5 rb3M h6 cc0_scratch4 cc0_scratch5 cc0_scratch6 cc0_scratch7 c w w' (acc2 ids tab c) w'') Q) := by
  rw [k0_part10_eq_skeleton]
  unfold k0_part10_skel
  simp only [semSignalWord, semWaitWord, Prog.lift, Prog.bind_op, Prog.bind_ret, Prog.pure_eq_ret, wp_deviceId]
  iintro #Hinv #Hlev HS Hk
  iapply (st_W2 (s' := 4) ids tab κ c 3 rfl 0 1 0 (.inl (by decide)) (sem1 3 (off := ![3]) rfl) (raM_eq 3 (off := ![3, 0, 0]) rfl) (credit_ra _)) $$ Hinv Hlev HS
  iintro HS
  iapply (st_Wra (s' := 4) ids tab c 3 rfl 0 (off := ![3, 0, 0]) rfl) $$ HS
  iintro HS
  iapply (st_W1 (s := 4) ids tab κ c 4 rfl 0 1 0 (.inl (by decide)) (sem0 4 (off := ![4]) rfl) (pcM_eq (show k0_off3 c 5#32 = ![64 * (pr c 4).val, 0] from off3_eq c 4)) (credit_pc _)) $$ Hinv Hlev HS
  iintro HS
  iapply (st_W2 (s' := 5) ids tab κ c 4 rfl 0 1 0 (.inl (by decide)) (sem1 4 (off := ![4]) rfl) (raM_eq 4 (off := ![4, 0, 0]) rfl) (credit_ra _)) $$ Hinv Hlev HS
  iintro HS
  iapply (st_Wra (s' := 5) ids tab c 4 rfl 0 (off := ![4, 0, 0]) rfl) $$ HS
  iintro HS
  iapply (wp_done c)
  iapply Hk $$ HS

/-- The sixth arrival added and the seventh awaited. -/
theorem part11 (w w' : BitVec 32) : invs ids tab κ ⊢ iprop(levAts L lv -∗ (SW ids tab c 0 1 0 5) -∗ ((SW ids tab c 0 1 0 7) -∗ Q (acc5 ids tab c))
    -∗ WP c (k0_part11 (F := F) idM h0 tabM h1 outM h2 parM h3 ra3M h4 redM h5 rb3M h6 cc0_scratch4 cc0_scratch5 cc0_scratch6 cc0_scratch7 c w w' (acc4 ids tab c)) Q) := by
  rw [k0_part11_eq_skeleton]
  unfold k0_part11_skel
  simp only [semSignalWord, semWaitWord, Prog.lift, Prog.bind_op, Prog.bind_ret, Prog.pure_eq_ret, wp_deviceId]
  iintro #Hinv #Hlev HS Hk
  iapply (st_W1 (s := 5) ids tab κ c 5 rfl 0 1 0 (.inl (by decide)) (sem0 5 (off := ![5]) rfl) (pcM_eq (show k0_off3 c 6#32 = ![64 * (pr c 5).val, 0] from off3_eq c 5)) (credit_pc _)) $$ Hinv Hlev HS
  iintro HS
  iapply (st_W2 (s' := 6) ids tab κ c 5 rfl 0 1 0 (.inl (by decide)) (sem1 5 (off := ![5]) rfl) (raM_eq 5 (off := ![5, 0, 0]) rfl) (credit_ra _)) $$ Hinv Hlev HS
  iintro HS
  iapply (st_Wra (s' := 6) ids tab c 5 rfl 0 (off := ![5, 0, 0]) rfl) $$ HS
  iintro HS
  iapply (st_W1 (s := 6) ids tab κ c 6 rfl 0 1 0 (.inl (by decide)) (sem0 6 (off := ![6]) rfl) (pcM_eq (show k0_off3 c 7#32 = ![64 * (pr c 6).val, 0] from off3_eq c 6)) (credit_pc _)) $$ Hinv Hlev HS
  iintro HS
  iapply (st_W2 (s' := 7) ids tab κ c 6 rfl 0 1 0 (.inl (by decide)) (sem1 6 (off := ![6]) rfl) (raM_eq 6 (off := ![6, 0, 0]) rfl) (credit_ra _)) $$ Hinv Hlev HS
  iintro HS
  iapply (wp_done c)
  iapply Hk $$ HS

/-- The sum finished, stored, and sent to two peers. -/
theorem part12 : invs ids tab κ ⊢ iprop(levAts L lv -∗ (SW ids tab c 0 1 0 7) -∗ (some' c redM) -∗ (bigSep Finset.univ (keepC c)) -∗ ((SC ids tab c 2) -∗ (bigSep Finset.univ (gotW ids tab c 0 1)) -∗ (ownsTc c redM lastShare (redV ids tab c)) -∗ Q ⟨sumV ids tab c, Scalar.xori (word c) 1#32, Scalar.xori (word c) 2#32, Scalar.xori (word c) 3#32⟩)
    -∗ WP c (k0_part12 (F := F) idM h0 tabM h1 outM h2 parM h3 ra3M h4 redM h5 rb3M h6 cc0_scratch4 cc0_scratch5 cc0_scratch6 cc0_scratch7 c (word c) (acc5 ids tab c)) Q) := by
  rw [k0_part12_eq_skeleton]
  unfold k0_part12_skel
  simp only [semSignalWord, semWaitWord, Prog.lift, Prog.bind_op, Prog.bind_ret, Prog.pure_eq_ret, wp_deviceId]
  iintro #Hinv #Hlev HS Hr HR Hk
  iapply (st_Wra (s' := 7) ids tab c 6 rfl 0 (off := ![6, 0, 0]) rfl) $$ HS
  iintro HS
  iapply (ld_red c) $$ Hr
  iintro Hr
  iapply (st_red c (off := ![0, 0]) rfl (redV ids tab c) rfl) $$ Hr
  iintro Hr
  ihave HQ := (open_C ids tab c) $$ HS Hr HR
  icases HQ with ⟨HC, HG, Hl⟩
  iapply (st_C (s := 0) (s' := 1) ids tab κ c 0 rfl rfl (dev15 c) rfl (rbM_eq 0 (off := ![0, 0, 0]) rfl) (sem2 0 (off := ![0]) rfl) (sem3 0 (off := ![0]) rfl)) $$ Hinv HC
  iintro HC
  iapply (st_C (s := 1) (s' := 2) ids tab κ c 1 rfl rfl (dev16 c) rfl (rbM_eq 1 (off := ![1, 0, 0]) rfl) (sem2 1 (off := ![1]) rfl) (sem3 1 (off := ![1]) rfl)) $$ Hinv HC
  iintro HC
  iapply (wp_done c)
  iapply Hk $$ HC HG Hl

/-- The sum sent to four more peers. -/
theorem part13 : invs ids tab κ ⊢ iprop(levAts L lv -∗ (SC ids tab c 2) -∗ ((SC ids tab c 6) -∗ Q ⟨Scalar.xori (word c) 4#32, Scalar.xori (word c) 5#32, Scalar.xori (word c) 6#32, Scalar.xori (word c) 7#32⟩)
    -∗ WP c (k0_part13 (F := F) idM h0 tabM h1 outM h2 parM h3 ra3M h4 redM h5 rb3M h6 cc0_scratch4 cc0_scratch5 cc0_scratch6 cc0_scratch7 c (word c)) Q) := by
  rw [k0_part13_eq_skeleton]
  unfold k0_part13_skel
  simp only [semSignalWord, semWaitWord, Prog.lift, Prog.bind_op, Prog.bind_ret, Prog.pure_eq_ret, wp_deviceId]
  iintro #Hinv #Hlev HC Hk
  iapply (st_C (s := 2) (s' := 3) ids tab κ c 2 rfl rfl (dev17 c) rfl (rbM_eq 2 (off := ![2, 0, 0]) rfl) (sem2 2 (off := ![2]) rfl) (sem3 2 (off := ![2]) rfl)) $$ Hinv HC
  iintro HC
  iapply (st_C (s := 3) (s' := 4) ids tab κ c 3 rfl rfl (dev18 c) rfl (rbM_eq 3 (off := ![3, 0, 0]) rfl) (sem2 3 (off := ![3]) rfl) (sem3 3 (off := ![3]) rfl)) $$ Hinv HC
  iintro HC
  iapply (st_C (s := 4) (s' := 5) ids tab κ c 4 rfl rfl (dev19 c) rfl (rbM_eq 4 (off := ![4, 0, 0]) rfl) (sem2 4 (off := ![4]) rfl) (sem3 4 (off := ![4]) rfl)) $$ Hinv HC
  iintro HC
  iapply (st_C (s := 5) (s' := 6) ids tab κ c 5 rfl rfl (dev20 c) rfl (rbM_eq 5 (off := ![5, 0, 0]) rfl) (sem2 5 (off := ![5]) rfl) (sem3 5 (off := ![5]) rfl)) $$ Hinv HC
  iintro HC
  iapply (wp_done c)
  iapply Hk $$ HC

/-- The sum sent to the last peer, the device's own block stored, and the first peer's sum loaded. -/
theorem part14 (w w' : BitVec 32) : invs ids tab κ ⊢ iprop(levAts L lv -∗ (SC ids tab c 6) -∗ (someO c c) -∗ (bigSep Finset.univ (restW c 2 3)) -∗ (SU ids tab c 0) -∗ ((ownsTc c (ocM c) fullShare (blockV ids tab c c)) -∗ (SW ids tab c 2 3 7 1) -∗ (SU ids tab c 0) -∗ Q (k0_pay19 (up (redV ids tab (pr c 0)))))
    -∗ WP c (k0_part14 (F := F) idM h0 tabM h1 outM h2 parM h3 ra3M h4 redM h5 rb3M h6 cc0_scratch4 cc0_scratch5 cc0_scratch6 cc0_scratch7 c (word c) (sumV ids tab c) w w') Q) := by
  rw [k0_part14_eq_skeleton]
  unfold k0_part14_skel
  simp only [semSignalWord, semWaitWord, Prog.lift, Prog.bind_op, Prog.bind_ret, Prog.pure_eq_ret, wp_deviceId]
  iintro #Hinv #Hlev HC Ho HA HU Hk
  iapply (st_C (s := 6) (s' := 7) ids tab κ c 6 rfl rfl (dev21 c) rfl (rbM_eq 6 (off := ![6, 0, 0]) rfl) (sem2 6 (off := ![6]) rfl) (sem3 6 (off := ![6]) rfl)) $$ Hinv HC
  iintro HC
  iapply (ld_out c c (off5_eq c)) $$ Ho
  iintro Ho
  iapply (st_out c c (off5_eq c) (blockV ids tab c c) (if_pos rfl).symm) $$ Ho
  iintro Ho
  ihave HS := (open_W ids tab c) $$ HC HA
  iapply (st_W1 (s := 0) ids tab κ c 0 rfl 2 3 7 (.inr rfl) (sem2 0 (off := ![0]) rfl) (rfl : redM = redM) rfl) $$ Hinv Hlev HS
  iintro HS
  iapply (st_W2 (s' := 1) ids tab κ c 0 rfl 2 3 7 (.inr rfl) (sem3 0 (off := ![0]) rfl) (rbM_eq 0 (off := ![0, 0, 0]) rfl) (credit_rb _)) $$ Hinv Hlev HS
  iintro HS
  iapply (st_Wrb (s' := 1) ids tab c 0 rfl 7 (off := ![0, 0, 0]) rfl) $$ HS
  iintro HS
  iapply (st_U1 (s := 0) ids tab c 0 rfl (show k0_off2 c 1#32 = ![64 * (pr c 0).val, 0] from off2_eq c 0)) $$ HU
  iintro HU
  iapply (wp_done c)
  iapply Hk $$ Ho HS HU

/-- The first two peers' blocks stored. -/
theorem part15 (w w' : BitVec 32) : invs ids tab κ ⊢ iprop(levAts L lv -∗ (SW ids tab c 2 3 7 1) -∗ (SU ids tab c 0) -∗ ((SWm ids tab c 2 3 7 2) -∗ (SU ids tab c 2) -∗ Q ⟨⟩)
    -∗ WP c (k0_part15 (F := F) idM h0 tabM h1 outM h2 parM h3 ra3M h4 redM h5 rb3M h6 cc0_scratch4 cc0_scratch5 cc0_scratch6 cc0_scratch7 c (word c) w w' (k0_pay19 (up (redV ids tab (pr c 0))))) Q) := by
  rw [k0_part15_eq_skeleton]
  unfold k0_part15_skel
  simp only [semSignalWord, semWaitWord, Prog.lift, Prog.bind_op, Prog.bind_ret, Prog.pure_eq_ret, wp_deviceId]
  iintro #Hinv #Hlev HS HU Hk
  iapply (st_U2 (s := 0) (s' := 1) ids tab c 0 rfl rfl (show k0_off2 c 1#32 = ![64 * (pr c 0).val, 0] from off2_eq c 0) rfl) $$ HU
  iintro HU
  iapply (st_W1 (s := 1) ids tab κ c 1 rfl 2 3 7 (.inr rfl) (sem2 1 (off := ![1]) rfl) (rfl : redM = redM) rfl) $$ Hinv Hlev HS
  iintro HS
  iapply (st_W2 (s' := 2) ids tab κ c 1 rfl 2 3 7 (.inr rfl) (sem3 1 (off := ![1]) rfl) (rbM_eq 1 (off := ![1, 0, 0]) rfl) (credit_rb _)) $$ Hinv Hlev HS
  iintro HS
  iapply (st_Wrb (s' := 2) ids tab c 1 rfl 7 (off := ![1, 0, 0]) rfl) $$ HS
  iintro HS
  iapply (st_U1 (s := 1) ids tab c 1 rfl (show k0_off2 c 2#32 = ![64 * (pr c 1).val, 0] from off2_eq c 1)) $$ HU
  iintro HU
  iapply (st_U2 (s := 1) (s' := 2) ids tab c 1 rfl rfl (show k0_off2 c 2#32 = ![64 * (pr c 1).val, 0] from off2_eq c 1) rfl) $$ HU
  iintro HU
  iapply (st_W1 (s := 2) ids tab κ c 2 rfl 2 3 7 (.inr rfl) (sem2 2 (off := ![2]) rfl) (rfl : redM = redM) rfl) $$ Hinv Hlev HS
  iintro HS
  iapply (wp_done c)
  iapply Hk $$ HS HU

/-- The third and fourth peers' blocks stored. -/
theorem part16 (w : BitVec 32) : invs ids tab κ ⊢ iprop(levAts L lv -∗ (SWm ids tab c 2 3 7 2) -∗ (SU ids tab c 2) -∗ ((SW ids tab c 2 3 7 4) -∗ (SU ids tab c 4) -∗ Q ⟨⟩)
    -∗ WP c (k0_part16 (F := F) idM h0 tabM h1 outM h2 parM h3 ra3M h4 redM h5 rb3M h6 cc0_scratch4 cc0_scratch5 cc0_scratch6 cc0_scratch7 c (word c) w) Q) := by
  rw [k0_part16_eq_skeleton]
  unfold k0_part16_skel
  simp only [semSignalWord, semWaitWord, Prog.lift, Prog.bind_op, Prog.bind_ret, Prog.pure_eq_ret, wp_deviceId]
  iintro #Hinv #Hlev HS HU Hk
  iapply (st_W2 (s' := 3) ids tab κ c 2 rfl 2 3 7 (.inr rfl) (sem3 2 (off := ![2]) rfl) (rbM_eq 2 (off := ![2, 0, 0]) rfl) (credit_rb _)) $$ Hinv Hlev HS
  iintro HS
  iapply (st_Wrb (s' := 3) ids tab c 2 rfl 7 (off := ![2, 0, 0]) rfl) $$ HS
  iintro HS
  iapply (st_U1 (s := 2) ids tab c 2 rfl (show k0_off2 c 3#32 = ![64 * (pr c 2).val, 0] from off2_eq c 2)) $$ HU
  iintro HU
  iapply (st_U2 (s := 2) (s' := 3) ids tab c 2 rfl rfl (show k0_off2 c 3#32 = ![64 * (pr c 2).val, 0] from off2_eq c 2) rfl) $$ HU
  iintro HU
  iapply (st_W1 (s := 3) ids tab κ c 3 rfl 2 3 7 (.inr rfl) (sem2 3 (off := ![3]) rfl) (rfl : redM = redM) rfl) $$ Hinv Hlev HS
  iintro HS
  iapply (st_W2 (s' := 4) ids tab κ c 3 rfl 2 3 7 (.inr rfl) (sem3 3 (off := ![3]) rfl) (rbM_eq 3 (off := ![3, 0, 0]) rfl) (credit_rb _)) $$ Hinv Hlev HS
  iintro HS
  iapply (st_Wrb (s' := 4) ids tab c 3 rfl 7 (off := ![3, 0, 0]) rfl) $$ HS
  iintro HS
  iapply (st_U1 (s := 3) ids tab c 3 rfl (show k0_off2 c 4#32 = ![64 * (pr c 3).val, 0] from off2_eq c 3)) $$ HU
  iintro HU
  iapply (st_U2 (s := 3) (s' := 4) ids tab c 3 rfl rfl (show k0_off2 c 4#32 = ![64 * (pr c 3).val, 0] from off2_eq c 3) rfl) $$ HU
  iintro HU
  iapply (wp_done c)
  iapply Hk $$ HS HU

/-- The fifth peer's block stored. -/
theorem part17 (w w' : BitVec 32) : invs ids tab κ ⊢ iprop(levAts L lv -∗ (SW ids tab c 2 3 7 4) -∗ (SU ids tab c 4) -∗ ((SWm ids tab c 2 3 7 5) -∗ (SU ids tab c 5) -∗ Q ⟨⟩)
    -∗ WP c (k0_part17 (F := F) idM h0 tabM h1 outM h2 parM h3 ra3M h4 redM h5 rb3M h6 cc0_scratch4 cc0_scratch5 cc0_scratch6 cc0_scratch7 c (word c) w w') Q) := by
  rw [k0_part17_eq_skeleton]
  unfold k0_part17_skel
  simp only [semSignalWord, semWaitWord, Prog.lift, Prog.bind_op, Prog.bind_ret, Prog.pure_eq_ret, wp_deviceId]
  iintro #Hinv #Hlev HS HU Hk
  iapply (st_W1 (s := 4) ids tab κ c 4 rfl 2 3 7 (.inr rfl) (sem2 4 (off := ![4]) rfl) (rfl : redM = redM) rfl) $$ Hinv Hlev HS
  iintro HS
  iapply (st_W2 (s' := 5) ids tab κ c 4 rfl 2 3 7 (.inr rfl) (sem3 4 (off := ![4]) rfl) (rbM_eq 4 (off := ![4, 0, 0]) rfl) (credit_rb _)) $$ Hinv Hlev HS
  iintro HS
  iapply (st_Wrb (s' := 5) ids tab c 4 rfl 7 (off := ![4, 0, 0]) rfl) $$ HS
  iintro HS
  iapply (st_U1 (s := 4) ids tab c 4 rfl (show k0_off2 c 5#32 = ![64 * (pr c 4).val, 0] from off2_eq c 4)) $$ HU
  iintro HU
  iapply (st_U2 (s := 4) (s' := 5) ids tab c 4 rfl rfl (show k0_off2 c 5#32 = ![64 * (pr c 4).val, 0] from off2_eq c 4) rfl) $$ HU
  iintro HU
  iapply (st_W1 (s := 5) ids tab κ c 5 rfl 2 3 7 (.inr rfl) (sem2 5 (off := ![5]) rfl) (rfl : redM = redM) rfl) $$ Hinv Hlev HS
  iintro HS
  iapply (wp_done c)
  iapply Hk $$ HS HU

end Parts

end Cert.KernelIdeal.Talk

end
-- ==== Proof.Body.lean ====
/-
# The kernel's body

The parts put together: what a device's whole run of the body needs and what it leaves.
-/
module

public import proofs.«01_k».proof.Proof.Parts

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ids : Dev nD → Vec F S512x1 .i32) (tab : Dev nD → Vec F S4096x512 .bf16) (κ : GSem nD τ sig → ℕ)

section Parts
variable (c : Dev nD)

variable {h0 : idM.IsWhole} {h1 : tabM.IsWhole} {h2 : outM.IsWhole} {h3 : parM.IsWhole} {h4 : ra3M.IsWhole} {h5 : redM.IsWhole} {h6 : rb3M.IsWhole}

/-- The parts in their order, up to the last landing awaited. -/
theorem part18 : invs ids tab κ ⊢ iprop(levAts L lv -∗ (idM.view.loc (c : Thread nD τ) ↦{fullShare} ids c) -∗ (tabM.view.loc (c : Thread nD τ) ↦{fullShare} tab c) -∗ (SB c 0) -∗ (cred (tallyAt (barC c) () 7) ∗ atPos ER (barC c) 0 ∅ 0) -∗ (preA c) -∗ (bigSep Finset.univ (restW c 0 1)) -∗ (bigSep Finset.univ (ownC c)) -∗ (some' c redM) -∗ (someO c c) -∗ (bigSep Finset.univ (restW c 2 3)) -∗ (SU ids tab c 0) -∗ ((idM.view.loc (c : Thread nD τ) ↦{fullShare} ids c) -∗ (tabM.view.loc (c : Thread nD τ) ↦{fullShare} tab c) -∗ (atPos ER (barC c) 1 ∅ 0) -∗ (bigSep Finset.univ (gotW ids tab c 0 1)) -∗ (ownsTc c redM lastShare (redV ids tab c)) -∗ (ownsTc c (ocM c) fullShare (blockV ids tab c c)) -∗ (SW ids tab c 2 3 7 7) -∗ (SU ids tab c 6) -∗ Q ⟨c, Scalar.xori (word c) 7#32⟩)
    -∗ WP c (k0_part18 (F := F) idM h0 tabM h1 outM h2 parM h3 ra3M h4 redM h5 rb3M h6 cc0_scratch4 cc0_scratch5 cc0_scratch6 cc0_scratch7) Q) := by
  rw [k0_part18_eq_skeleton]
  unfold k0_part18_skel
  simp only [Prog.lift, Prog.bind_op, Prog.bind_ret, Prog.pure_eq_ret]
  iintro #Hinv #Hlev Hx Hy HS Hb HP HV HD Hr Ho HA HU Hk
  iapply (wp_seq c)
  iapply (part1 ids tab κ c) $$ Hinv Hlev HS
  iintro HS
  iapply (wp_seq c)
  iapply (part2 ids tab κ c _) $$ Hinv Hlev Hx Hy HS Hb HP
  iintro Hx Hy HS Hb HR
  iapply (wp_seq c)
  iapply (part3 ids tab κ c _) $$ Hinv Hlev Hx HS
  iintro Hx HS
  iapply (wp_seq c)
  iapply (part4 ids tab κ c _) $$ Hinv Hlev Hx HS
  iintro Hx HS
  iapply (wp_seq c)
  iapply (part5 ids tab κ c _) $$ Hinv Hlev Hx HS
  iintro Hx HS
  iapply (wp_seq c)
  iapply (part6 ids tab κ c) $$ Hinv Hlev Hx HS
  iintro Hx HS
  iapply (wp_seq c)
  iapply (part7 ids tab κ c _) $$ Hinv Hlev Hx HS
  iintro Hx HS
  ihave HS := (open_V ids tab c) $$ HS HV
  iapply (wp_seq c)
  iapply (part8 ids tab κ c _ _) $$ Hinv Hlev HS
  iintro HS
  iapply (wp_seq c)
  iapply (part9 ids tab κ c _) $$ Hinv Hlev HS
  iintro HS
  iapply (wp_seq c)
  iapply (part10 ids tab κ c _ _ _) $$ Hinv Hlev HS
  iintro HS
  iapply (wp_seq c)
  iapply (part11 ids tab κ c _ _) $$ Hinv Hlev HS
  iintro HS
  ihave HR := (keep_C c) $$ HR HD
  iapply (wp_seq c)
  iapply (part12 ids tab κ c) $$ Hinv Hlev HS Hr HR
  iintro HC HG Hl
  iapply (wp_seq c)
  iapply (part13 ids tab κ c) $$ Hinv Hlev HC
  iintro HC
  iapply (wp_seq c)
  iapply (part14 ids tab κ c _ _) $$ Hinv Hlev HC Ho HA HU
  iintro Ho HS HU
  iapply (wp_seq c)
  iapply (part15 ids tab κ c _ _) $$ Hinv Hlev HS HU
  iintro HS HU
  iapply (wp_seq c)
  iapply (part16 ids tab κ c _) $$ Hinv Hlev HS HU
  iintro HS HU
  iapply (wp_seq c)
  iapply (part17 ids tab κ c _ _) $$ Hinv Hlev HS HU
  iintro HS HU
  iapply (st_W2 (s' := 6) ids tab κ c 5 rfl 2 3 7 (.inr rfl) (sem3 5 (off := ![5]) rfl) (rbM_eq 5 (off := ![5, 0, 0]) rfl) (credit_rb _)) $$ Hinv Hlev HS
  iintro HS
  iapply (st_Wrb (s' := 6) ids tab c 5 rfl 7 (off := ![5, 0, 0]) rfl) $$ HS
  iintro HS
  iapply (st_U1 (s := 5) ids tab c 5 rfl (show k0_off2 c 6#32 = ![64 * (pr c 5).val, 0] from off2_eq c 5)) $$ HU
  iintro HU
  iapply (st_U2 (s := 5) (s' := 6) ids tab c 5 rfl rfl (show k0_off2 c 6#32 = ![64 * (pr c 5).val, 0] from off2_eq c 5) rfl) $$ HU
  iintro HU
  iapply (st_W1 (s := 6) ids tab κ c 6 rfl 2 3 7 (.inr rfl) (sem2 6 (off := ![6]) rfl) (rfl : redM = redM) rfl) $$ Hinv Hlev HS
  iintro HS
  iapply (st_W2 (s' := 7) ids tab κ c 6 rfl 2 3 7 (.inr rfl) (sem3 6 (off := ![6]) rfl) (rbM_eq 6 (off := ![6, 0, 0]) rfl) (credit_rb _)) $$ Hinv Hlev HS
  iintro HS
  iapply (wp_done c)
  iapply Hk $$ Hx Hy Hb HG Hl Ho HS HU

/-- The whole body. -/
theorem body_run : invs ids tab κ ⊢ iprop(levAts L lv -∗ (idM.view.loc (c : Thread nD τ) ↦{fullShare} ids c) -∗ (tabM.view.loc (c : Thread nD τ) ↦{fullShare} tab c) -∗ (SB c 0) -∗ (cred (tallyAt (barC c) () 7) ∗ atPos ER (barC c) 0 ∅ 0) -∗ (preA c) -∗ (bigSep Finset.univ (restW c 0 1)) -∗ (bigSep Finset.univ (ownC c)) -∗ (some' c redM) -∗ (someO c c) -∗ (bigSep Finset.univ (restW c 2 3)) -∗ (SU ids tab c 0) -∗ ((idM.view.loc (c : Thread nD τ) ↦{fullShare} ids c) -∗ (tabM.view.loc (c : Thread nD τ) ↦{fullShare} tab c) -∗ (atPos ER (barC c) 1 ∅ 0) -∗ (bigSep Finset.univ (gotW ids tab c 0 1)) -∗ (ownsTc c redM lastShare (redV ids tab c)) -∗ (ownsTc c (ocM c) fullShare (blockV ids tab c c)) -∗ (SW ids tab c 2 3 7 7) -∗ (SU ids tab c 7) -∗ Q ⟨⟩)
    -∗ WP c (cc0_body (F := F) idM h0 tabM h1 outM h2 parM h3 ra3M h4 redM h5 rb3M h6 cc0_scratch4 cc0_scratch5 cc0_scratch6 cc0_scratch7) Q) := by
  rw [cc0_body_eq_skeleton]
  unfold cc0_body_skel
  simp only [Prog.lift, Prog.bind_op, Prog.bind_ret, Prog.pure_eq_ret]
  iintro #Hinv #Hlev Hx Hy HS Hb HP HV HD Hr Ho HA HU Hk
  iapply (wp_seq c)
  iapply (part18 ids tab κ c) $$ Hinv Hlev Hx Hy HS Hb HP HV HD Hr Ho HA HU
  iintro Hx Hy Hb HG Hl Ho HS HU
  iapply (st_Wrb (s' := 7) ids tab c 6 rfl 7 (off := ![6, 0, 0]) rfl) $$ HS
  iintro HS
  iapply (st_U1 (s := 6) ids tab c 6 rfl (show k0_off2 c 7#32 = ![64 * (pr c 6).val, 0] from off2_eq c 6)) $$ HU
  iintro HU
  iapply (st_U2 (s := 6) (s' := 7) ids tab c 6 rfl rfl (show k0_off2 c 7#32 = ![64 * (pr c 6).val, 0] from off2_eq c 6) rfl) $$ HU
  iintro HU
  iapply (wp_done c)
  iapply Hk $$ Hx Hy Hb HG Hl Ho HS HU

end Parts

end Cert.KernelIdeal.Talk

end
-- ==== Proof.Mem.lean ====
/-
The buffers of the region, cut and joined.

The exchange holds the contributions buffer and the output by blocks of 64 rows and the two landing buffers by slots.
Here each of them, whole at some contents, is cut into these parts and joined back, and the output is joined at the
contents its blocks were stored with.
-/
module

public import proofs.«01_k».proof.Proof.Body
public import Idealize.ShloMosaic.Lib.Ring.FamCut

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The parts are disjoint, and the blocks cover -/

theorem rows_disj (p p' : Dev nD) (h : p ≠ p') : Disjoint (rowR p).set (rowR p').set := by
  have h' : p.val ≠ p'.val := fun e => h (Fin.ext e)
  refine Rect.unit_disjoint 0 ?_
  show 64 * p.val + 64 ≤ 64 * p'.val ∨ 64 * p'.val + 64 ≤ 64 * p.val
  omega
theorem slots_disj (j j' : Fin 7) (h : j ≠ j') : Disjoint (slotR j).set (slotR j').set := by
  have h' : j.val ≠ j'.val := fun e => h (Fin.ext e)
  refine Rect.unit_disjoint 0 ?_
  show j.val + 1 ≤ j'.val ∨ j'.val + 1 ≤ j.val
  omega

/-- The block that an element of a 512×512 buffer lies in, and its place there. -/
def blkOf (i : S512x512.Idx) : Dev nD := ⟨(i 0).val / 64, by have h : (i 0).val < 512 := (i 0).isLt; show _ < 8; omega⟩
def inBlk (i : S512x512.Idx) : S64x512.Idx := fun a => match a with
  | 0 => ⟨(i 0).val % 64, Nat.mod_lt _ (by decide)⟩
  | 1 => i 1

theorem rows_cover : (Finset.univ : Finset (Dev nD)).biUnion (fun p => (rowR p).set) = Finset.univ := by
  refine Finset.eq_univ_of_forall fun i => Finset.mem_biUnion.mpr ⟨blkOf i, Finset.mem_univ _, Rect.mem_set_unit.mpr fun a => ?_⟩
  fin_cases a
  · show 64 * ((i 0).val / 64) ≤ (i 0).val ∧ (i 0).val < 64 * ((i 0).val / 64) + 64
    omega
  · show 0 ≤ (i 1).val ∧ (i 1).val < 0 + 512
    have h : (i 1).val < 512 := (i 1).isLt
    omega

theorem emb_row (p : Dev nD) (y : S64x512.Idx) : (((rowR p).emb y) 0).val = 64 * p.val + (y 0).val := by
  rw [Rect.emb_apply]; show 64 * p.val + 1 * (y 0).val = _; omega
theorem emb_col (p : Dev nD) (y : S64x512.Idx) : (((rowR p).emb y) 1).val = (y 1).val := by
  rw [Rect.emb_apply]; show 0 + 1 * (y 1).val = _; omega
theorem blkOf_emb (p : Dev nD) (y : S64x512.Idx) : blkOf ((rowR p).emb y) = p := by
  refine Fin.ext ?_
  have h0 := emb_row p y
  have hy : (y 0).val < 64 := (y 0).isLt
  show (((rowR p).emb y) 0).val / 64 = p.val
  omega
theorem inBlk_emb (p : Dev nD) (y : S64x512.Idx) : inBlk ((rowR p).emb y) = y := by
  have h0 := emb_row p y
  have h1 := emb_col p y
  have hy : (y 0).val < 64 := (y 0).isLt
  funext a
  refine Fin.ext ?_
  fin_cases a
  · show (((rowR p).emb y) 0).val % 64 = (y 0).val
    omega
  · exact h1
theorem emb_blk (i : S512x512.Idx) : (rowR (blkOf i)).emb (inBlk i) = i := by
  funext a
  refine Fin.ext ?_
  fin_cases a
  · refine (emb_row _ _).trans ?_
    show 64 * ((i 0).val / 64) + (i 0).val % 64 = (i 0).val
    omega
  · exact emb_col _ _

/-! ## A family of parts of a buffer, each at some contents -/

section Parts
variable {T : Type} [Fintype T] [DecidableEq T] {ℓ : Loc nD τ sig} (I : T → Finset (Idx ℓ)) (hd : ∀ t t', t ≠ t' → Disjoint (I t) (I t'))
include hd in
theorem cut_fam (S : T → sProp (MT nD τ sig Unit (Elt F) ℕ UU ℕ)) (hS : ∀ t, S t = iprop(∃ f, ℓ ↦[I t]{fullShare} f)) :
    (iprop(∃ f, ℓ ↦{fullShare} f) : sProp 𝕄) ⊢ iprop(bigSep Finset.univ S ∗ ∃ f, ℓ ↦[Ring.restOf I]{fullShare} f) := by
  rw [show S = fun t => iprop(∃ f, ℓ ↦[I t]{fullShare} f) from funext hS]
  exact Ring.fam_split_ex I hd
include hd in
theorem glue_fam (S : T → sProp (MT nD τ sig Unit (Elt F) ℕ UU ℕ)) (hS : ∀ t, S t = iprop(∃ f, ℓ ↦[I t]{fullShare} f)) :
    (iprop(bigSep Finset.univ S ∗ ∃ f, ℓ ↦[Ring.restOf I]{fullShare} f) : sProp 𝕄) ⊢ iprop(∃ f, ℓ ↦{fullShare} f) := by
  rw [show S = fun t => iprop(∃ f, ℓ ↦[I t]{fullShare} f) from funext hS]
  iintro ⟨H, %r, Hr⟩
  iapply (show (iprop(bigSep Finset.univ (fun b => iprop(∃ f, ℓ ↦[I b]{fullShare} f)) ∗ ∃ f, ℓ ↦[Ring.restOf I]{fullShare} f) : sProp 𝕄) ⊢ iprop(∃ f, ℓ ↦{fullShare} f)
    from Ring.fam_join I hd r)
  isplitl [H]; · iexact H
  iexists r; iexact Hr
end Parts

/-- Some contents that read as something are some contents. -/
theorem ex_read {A : Type} {B : Type} (P : A → sProp (MT nD τ sig Unit (Elt F) ℕ UU ℕ)) (rd : A → B) :
    (iprop(∃ X, ∃ f, ⌜rd f = X⌝ ∗ P f) : sProp 𝕄) = iprop(∃ f, P f) := by
  refine BI.Entails.antisymm ?_ ?_
  · show (iprop(∃ X, ∃ f, ⌜rd f = X⌝ ∗ P f) : sProp 𝕄) ⊢ iprop(∃ f, P f)
    iintro ⟨%X, %f, -, H⟩
    iexists f; iexact H
  · show (iprop(∃ f, P f) : sProp 𝕄) ⊢ iprop(∃ X, ∃ f, ⌜rd f = X⌝ ∗ P f)
    iintro ⟨%f, H⟩
    iexists (rd f); iexists f
    isplitr; · ipureintro; rfl
    iexact H

/-- A family over the devices is the member of `c` and the members of its seven peers. -/
theorem dev_split (Φ : Dev nD → sProp (MT nD τ sig Unit (Elt F) ℕ UU ℕ)) (c : Dev nD) :
    (bigSep Finset.univ Φ : sProp 𝕄) = iprop(Φ c ∗ bigSep Finset.univ fun j => Φ (pr c j)) := by
  have hi : Function.Injective (pr c) := fun j j' h => pr_inj c h
  have hs : (Finset.univ : Finset (Dev nD)) = insert c (Finset.univ.map ⟨pr c, hi⟩) := by
    refine (Finset.eq_univ_of_forall fun p => ?_).symm
    rcases eq_or_pr c p with rfl | ⟨j, rfl⟩
    · exact Finset.mem_insert_self _ _
    · exact Finset.mem_insert_of_mem (Finset.mem_map_of_mem ⟨pr c, hi⟩ (Finset.mem_univ j))
  have hn : c ∉ (Finset.univ.map ⟨pr c, hi⟩ : Finset (Dev nD)) := fun h => by
    obtain ⟨j, -, hj⟩ := Finset.mem_map.mp h
    exact pr_ne c j hj
  rw [hs, bigSep_insert hn, bigSep_map]; rfl

variable (ids : Dev nD → Vec F S512x1 .i32) (tab : Dev nD → Vec F S4096x512 .bf16) (c : Dev nD)

/-! ## The contributions buffer and the landing buffers -/

section Scratch
theorem pc_disj (p p' : Dev nD) (h : p ≠ p') : Disjoint (pcM p).view.set (pcM p').view.set := by
  rw [← set_par, ← set_par]; exact (Finset.disjoint_map _).mpr (rows_disj p p' h)
theorem oc_disj (p p' : Dev nD) (h : p ≠ p') : Disjoint (ocM p).view.set (ocM p').view.set := by
  rw [← set_oc, ← set_oc]; exact (Finset.disjoint_map _).mpr (rows_disj p p' h)
theorem ra_disj (j j' : Fin 7) (h : j ≠ j') : Disjoint (raM j).view.set (raM j').view.set := by
  rw [← set_ra, ← set_ra]; exact (Finset.disjoint_map _).mpr (slots_disj j j' h)
theorem rb_disj (j j' : Fin 7) (h : j ≠ j') : Disjoint (rbM j).view.set (rbM j').view.set := by
  rw [← set_rb, ← set_rb]; exact (Finset.disjoint_map _).mpr (slots_disj j j' h)

theorem some_pc (p : Dev nD) : (some' c (pcM p) : sProp 𝕄) = iprop(∃ f, parM.view.loc (c : Thread nD τ) ↦[(pcM p).view.set]{fullShare} f) :=
  ex_read (fun f => (parM.view.loc (c : Thread nD τ) ↦[(pcM p).view.set]{fullShare} f)) ((pcM p).view.read (Elt F))
theorem some_oc (p : Dev nD) : (someO c p : sProp 𝕄) = iprop(∃ f, outM.view.loc (c : Thread nD τ) ↦[(ocM p).view.set]{fullShare} f) :=
  ex_read (fun f => (outM.view.loc (c : Thread nD τ) ↦[(ocM p).view.set]{fullShare} f)) ((ocM p).view.read (Elt F))
theorem some_ra (j : Fin 7) : (some' c (raM j) : sProp 𝕄) = iprop(∃ f, ra3M.view.loc (c : Thread nD τ) ↦[(raM j).view.set]{fullShare} f) :=
  ex_read (fun f => (ra3M.view.loc (c : Thread nD τ) ↦[(raM j).view.set]{fullShare} f)) ((raM j).view.read (Elt F))
theorem some_rb (j : Fin 7) : (some' c (rbM j) : sProp 𝕄) = iprop(∃ f, rb3M.view.loc (c : Thread nD τ) ↦[(rbM j).view.set]{fullShare} f) :=
  ex_read (fun f => (rb3M.view.loc (c : Thread nD τ) ↦[(rbM j).view.set]{fullShare} f)) ((rbM j).view.read (Elt F))

/-- What the blocks, or the slots, leave of a buffer. -/
def leftP : sProp 𝕄 := iprop(∃ f, parM.view.loc (c : Thread nD τ) ↦[Ring.restOf fun p => (pcM p).view.set]{fullShare} f)
def leftA : sProp 𝕄 := iprop(∃ f, ra3M.view.loc (c : Thread nD τ) ↦[Ring.restOf fun j => (raM j).view.set]{fullShare} f)
def leftB : sProp 𝕄 := iprop(∃ f, rb3M.view.loc (c : Thread nD τ) ↦[Ring.restOf fun j => (rbM j).view.set]{fullShare} f)

theorem cut_par : (iprop(∃ f, parM.view.loc (c : Thread nD τ) ↦{fullShare} f) : sProp 𝕄)
    ⊢ iprop((some' c (pcM c) ∗ bigSep Finset.univ fun j => some' c (pcM (pr c j))) ∗ leftP c) := by
  rw [← dev_split (fun p => some' c (pcM p)) c]
  exact cut_fam _ pc_disj _ (some_pc c)
theorem glue_par : (iprop((some' c (pcM c) ∗ bigSep Finset.univ fun j => some' c (pcM (pr c j))) ∗ leftP c) : sProp 𝕄)
    ⊢ iprop(∃ f, parM.view.loc (c : Thread nD τ) ↦{fullShare} f) := by
  rw [← dev_split (fun p => some' c (pcM p)) c]
  exact glue_fam _ pc_disj _ (some_pc c)
theorem cut_ra : (iprop(∃ f, ra3M.view.loc (c : Thread nD τ) ↦{fullShare} f) : sProp 𝕄)
    ⊢ iprop((bigSep Finset.univ fun j => some' c (raM j)) ∗ leftA c) := cut_fam _ ra_disj _ (some_ra c)
theorem glue_ra : (iprop((bigSep Finset.univ fun j => some' c (raM j)) ∗ leftA c) : sProp 𝕄)
    ⊢ iprop(∃ f, ra3M.view.loc (c : Thread nD τ) ↦{fullShare} f) := glue_fam _ ra_disj _ (some_ra c)
theorem cut_rb : (iprop(∃ f, rb3M.view.loc (c : Thread nD τ) ↦{fullShare} f) : sProp 𝕄)
    ⊢ iprop((bigSep Finset.univ fun j => some' c (rbM j)) ∗ leftB c) := cut_fam _ rb_disj _ (some_rb c)
theorem glue_rb : (iprop((bigSep Finset.univ fun j => some' c (rbM j)) ∗ leftB c) : sProp 𝕄)
    ⊢ iprop(∃ f, rb3M.view.loc (c : Thread nD τ) ↦{fullShare} f) := glue_fam _ rb_disj _ (some_rb c)

theorem some_red : (some' c redM : sProp 𝕄) = iprop(∃ f, redM.view.loc (c : Thread nD τ) ↦{fullShare} f) := by
  unfold some'
  simp only [owns_red]
  exact ex_read (fun f => (redM.view.loc (c : Thread nD τ) ↦{fullShare} f)) id
/-- The eight shares of the sum's buffer are the buffer at some contents. -/
theorem glue_red : (iprop(ownsTc c redM lastShare (redV ids tab c) ∗ bigSep Finset.univ fun j => ownsTc c redM (shr j) (redV ids tab c)) : sProp 𝕄)
    ⊢ iprop(∃ f, redM.view.loc (c : Thread nD τ) ↦{fullShare} f) := by
  rw [← red_leaves, ← some_red]
  unfold some'
  iintro H
  iexists (redV ids tab c); iexact H
end Scratch

/-! ## The output -/

/-- The output: each block at what the run stores there. -/
def outV : Vec F S512x512 .f32 := fun i => blockV ids tab c (blkOf i) (inBlk i)

theorem cut_out (f : Buf (Elt F) (outM.view.loc (c : Thread nD τ))) : ((outM.view.loc (c : Thread nD τ) ↦{fullShare} f) : sProp 𝕄)
    ⊢ iprop(someO c c ∗ bigSep Finset.univ fun j => someO c (pr c j)) := by
  rw [← dev_split (fun p => someO c p) c]
  iintro H
  ihave H := (show (iprop(∃ f, outM.view.loc (c : Thread nD τ) ↦{fullShare} f) : sProp 𝕄) ⊢ iprop(bigSep Finset.univ (fun p => someO c p) ∗
    ∃ f, outM.view.loc (c : Thread nD τ) ↦[Ring.restOf fun p => (ocM p).view.set]{fullShare} f) from cut_fam _ oc_disj _ (some_oc c)) $$ [H]
  · iexists f; iexact H
  icases H with ⟨H, -⟩
  iexact H

theorem glue_out : (iprop(ownsTc c (ocM c) fullShare (blockV ids tab c c) ∗ bigSep Finset.univ (gotU ids tab c)) : sProp 𝕄)
    ⊢ (outM.view.loc (c : Thread nD τ) ↦{fullShare} outV ids tab c) := by
  have hb : ∀ p, (ownsTc c (ocM p) fullShare (blockV ids tab c p) : sProp 𝕄)
      = owns (c : Thread nD τ) (outM.slice (rowR p) (fun _ => rfl)) fullShare (fun y => outV ids tab c ((rowR p).emb y)) := fun p => by
    have e : (fun y => outV ids tab c ((rowR p).emb y)) = blockV ids tab c p := funext fun y => by
      unfold outV; rw [blkOf_emb, inBlk_emb]
    rw [e]; rfl
  have e : (iprop(ownsTc c (ocM c) fullShare (blockV ids tab c c) ∗ bigSep Finset.univ (gotU ids tab c)) : sProp 𝕄)
      = bigSep Finset.univ fun p => owns (c : Thread nD τ) (outM.slice (rowR p) (fun _ => rfl)) fullShare (fun y => outV ids tab c ((rowR p).emb y)) := by
    rw [← funext hb, dev_split _ c]; rfl
  rw [e]
  refine (owns_of_rects (c : Thread nD τ) outM fullShare rowR (fun _ _ => rfl) rows_disj rows_cover (outV ids tab c)).trans ?_
  rw [owns_whole_eq (c : Thread nD τ) cc0_stg2_0 fullShare (outV ids tab c)]
  iintro ⟨%f, %hf, H⟩
  subst hf
  iexact H

end Cert.KernelIdeal.Talk

end
-- ==== Proof.Value.lean ====
/-
The values of the run over the extended reals: a contribution's entry is the table's entry at the id where the device holds
that row, and zero elsewhere; the eight contributions to a block add up to the rows of the whole table at the block's ids.
-/
module

public import proofs.«01_k».proof.Proof.Math
public import proofs.«01_k».proof.Proof.Mem
public import Idealize.ShloMosaic.Lib.Pointwise.Reshape
public import Idealize.ShloMosaic.Lib.Layout

@[expose] public section

noncomputable section

namespace Cert.KernelIdeal.Talk

open Cert.KernelIdeal Cert.KernelIdeal.Gen
open Idealize.ShloMosaic hiding ix2 eq_ix2
open Idealize.ShloMosaic.ValueIdx
open scoped BigOperators

/-! ## One contribution -/

/-- A contribution's entry: the table's at the id less the first row held, or zero where that names no row. -/
theorem pay4_apply (T : FVec Ideal S4096x512 .bf16) (b : BitVec 32) (v : Vec Ideal S64x1 .i32) (r : Fin 64) (d : Fin 512) :
    k0_pay4 (k0_pay2 T) b v (ix2 r d)
      = if h : (v (ix2 r 0) - b).toNat < 4096 then T (ix2 ⟨(v (ix2 r 0) - b).toNat, h⟩ d) else (0 : EReal) := by
  unfold k0_pay4 k0_pay2
  simp only [shapeCast_id]
  refine (Ideal.matmul_plain_apply (M := 64) (K := 4096) (N := 512) none _ _ _ r d).trans ?_
  rw [show (constant S64x512 .f32 0x00000000#32 : FVec Ideal S64x512 .f32) (ix2 r d) = (0 : EReal) from Ideal.ofBits_zero_f32, zero_add]
  refine Eq.trans (Finset.sum_congr rfl fun k _ => ?_) (hot_sum (v (ix2 r 0) - b) fun k => T (ix2 k d))
  have hb : broadcastTo S64x4096 (subi v (broadcast S64x1 b)) broadcasts_S64x1_S64x4096 (ix2 r k) = v (ix2 r 0) - b := by
    refine congrArg (subi v (broadcast S64x1 b)) (funext fun a => Fin.ext ?_)
    match a with
    | ⟨0, _⟩ => rfl
    | ⟨1, _⟩ => rfl
  have hi : iota .tc S64x4096 32 [1] iota_S64x4096_d1_w32 (ix2 r k) = BitVec.ofNat 32 k.val :=
    congrArg (BitVec.ofNat 32) (by show 0 * 4096 + k.val = k.val; omega)
  refine congrArg (fun y : EReal => y * T (ix2 k d)) (Eq.trans (b := ((((IntOp.cmpi .eq (v (ix2 r 0) - b) (BitVec.ofNat 32 k.val)).setWidth 32).toInt : ℝ) : EReal)) ?_ (hot_eq _ _))
  rw [← hb, ← hi]
  rfl

/-- One's own contribution is computed as the others are. -/
theorem pay11_eq (T : FVec Ideal S4096x512 .bf16) (b : BitVec 32) (v : Vec Ideal S64x1 .i32) : k0_pay11 T b v = k0_pay4 T b v := by
  unfold k0_pay11 k0_pay4
  simp only [shapeCast_id]

/-- A block read from a landing buffer's slot is the block that was copied there. -/
theorem cast_up (X : S64x512.Idx → Elt Ideal .bf16) : shapeCast S64x512 (up X) shapeCasts_S1x64x512_S64x512 = X := by
  funext j
  unfold up shapeCast
  exact congrArg X (Equiv.symm_apply_apply _ _)

/-- A row number of block `p`. -/
theorem row_lt (p : Dev nD) (r : Fin 64) : 64 * p.val + r.val < 512 := by have := r.isLt; have h : p.val < 8 := p.isLt; omega

/-- The ids of block `p`, read at a row of it. -/
theorem rowsOf_apply (x : Vec Ideal S512x1 .i32) (p : Dev nD) (r : Fin 64) :
    rowsOf x p (ix2 r 0) = x (ix2 ⟨64 * p.val + r.val, row_lt p r⟩ 0) := by
  unfold rowsOf
  refine congrArg x ?_
  funext a
  refine Fin.ext ?_
  match a with
  | ⟨0, _⟩ => show 64 * p.val + 1 * r.val = 64 * p.val + r.val; omega
  | ⟨1, _⟩ => rfl

/-! ## The sum of the contributions -/

section Sum

variable (ids : Dev nD → Vec Ideal S512x1 .i32) (tab : Dev nD → Vec Ideal S4096x512 .bf16)
variable (x : Vec Ideal S512x1 .i32) (E : Fin 32768 → Fin 512 → EReal)

/-- What the eight devices hold: the same ids, each in range, and each its 4096 rows of one table. -/
structure Held : Prop where
  ids_eq : ∀ c, ids c = x
  lt : ∀ t : Fin 512, (x (ix2 t 0)).toNat < 32768
  tab_eq : ∀ (c : Dev nD) (k : Fin 4096) (d : Fin 512),
    tab c (ix2 k d) = E ⟨4096 * c.val + k.val, by have := k.isLt; have h : c.val < 8 := c.isLt; omega⟩ d

variable {ids tab x E} (H : Held ids tab x E)
include H

/-- A contribution's entry: the whole table's where this device holds the id's row, zero elsewhere. -/
theorem piece_apply (c p : Dev nD) (r : Fin 64) (d : Fin 512) :
    pieceV ids tab c p (ix2 r d)
      = if (x (ix2 ⟨64 * p.val + r.val, row_lt p r⟩ 0)).toNat / 4096 = c.val
        then E ⟨(x (ix2 ⟨64 * p.val + r.val, row_lt p r⟩ 0)).toNat, H.lt _⟩ d else (0 : EReal) := by
  unfold pieceV
  rw [pay4_apply, rowsOf_apply, H.ids_eq c]
  have hw := H.lt ⟨64 * p.val + r.val, row_lt p r⟩
  by_cases h : (x (ix2 ⟨64 * p.val + r.val, row_lt p r⟩ 0)).toNat / 4096 = c.val
  · have e := sub_base c _ hw h
    rw [if_pos h, dif_pos (by rw [e]; omega), H.tab_eq]
    refine congrArg (fun k => E k d) (Fin.ext ?_)
    have e' : 4096 * c.val + (x (ix2 ⟨64 * p.val + r.val, row_lt p r⟩ 0)).toNat % 4096
        = (x (ix2 ⟨64 * p.val + r.val, row_lt p r⟩ 0)).toNat := by omega
    exact (congrArg (4096 * c.val + ·) e).trans e'
  · rw [if_neg h, dif_neg (sub_base_ge c _ hw h)]

omit H in
/-- A sum of blocks, read at an index. -/
theorem add_at (a b : FVec Ideal S64x512 .bf16) (i : S64x512.Idx) : addf a b i = (a i + b i : EReal) := rfl

omit H in
/-- The running sum is the eight contributions', one's own first. -/
theorem sumV_apply (c : Dev nD) (i : S64x512.Idx) :
    sumV ids tab c i = pieceV ids tab c c i + pieceV ids tab (pr c 0) c i + pieceV ids tab (pr c 1) c i + pieceV ids tab (pr c 2) c i
      + pieceV ids tab (pr c 3) c i + pieceV ids tab (pr c 4) c i + pieceV ids tab (pr c 5) c i + pieceV ids tab (pr c 6) c i := by
  unfold sumV acc5 acc4 acc2 acc0 ownV inV
  rw [pay11_eq]
  unfold k0_pay16 k0_pay15 k0_pay14 k0_pay13 k0_pay12
  simp only [add_at]
  rw [cast_up (pieceV ids tab (pr c 0) c), cast_up (pieceV ids tab (pr c 1) c), cast_up (pieceV ids tab (pr c 2) c),
    cast_up (pieceV ids tab (pr c 3) c), cast_up (pieceV ids tab (pr c 4) c), cast_up (pieceV ids tab (pr c 5) c),
    cast_up (pieceV ids tab (pr c 6) c)]
  rfl

/-- The sum of the contributions to block `p`: the whole table's rows at the block's ids. -/
theorem sum_apply (p : Dev nD) (r : Fin 64) (d : Fin 512) :
    sumV ids tab p (ix2 r d) = E ⟨(x (ix2 ⟨64 * p.val + r.val, row_lt p r⟩ 0)).toNat, H.lt _⟩ d := by
  have hw := H.lt ⟨64 * p.val + r.val, row_lt p r⟩
  rw [sumV_apply]
  refine (sum_all (fun q => pieceV ids tab q p (ix2 r d))
    ⟨(x (ix2 ⟨64 * p.val + r.val, row_lt p r⟩ 0)).toNat / 4096, by show _ < 8; omega⟩ p fun q hq => ?_).trans ?_
  · show pieceV ids tab q p (ix2 r d) = 0
    rw [piece_apply H, if_neg]
    exact fun e => hq (Fin.ext e.symm)
  · show pieceV ids tab _ p (ix2 r d) = _
    rw [piece_apply H, if_pos rfl]

omit H in
/-- A device's output block is the sum of the contributions to it, whoever has summed them. -/
theorem blockV_apply (c p : Dev nD) (i : S64x512.Idx) : blockV ids tab c p i = (sumV ids tab p i : EReal) := by
  unfold blockV
  split
  · next h => subst h; rfl
  · unfold k0_pay1 redV k0_pay17
    rw [cast_up]
    simp only [shapeCast_id]
    rfl

/-- **Each device's output: row `t` is the whole table's row at the `t`-th id.** -/
theorem outV_apply (c : Dev nD) (t d : Fin 512) :
    outV ids tab c (ix2 t d) = (E ⟨(x (ix2 t 0)).toNat, H.lt t⟩ d : EReal) := by
  unfold outV
  rw [blockV_apply, show inBlk (ix2 t d) = ix2 (⟨t.val % 64, Nat.mod_lt _ (by norm_num)⟩ : Fin 64) d from eq_ix2 _, sum_apply H]
  refine congrArg (fun k => E k d) (Fin.ext ?_)
  refine congrArg (fun k : Fin 512 => (x (ix2 k 0)).toNat) (Fin.ext ?_)
  show 64 * (t.val / 64) + t.val % 64 = t.val
  omega

end Sum

end Cert.KernelIdeal.Talk

end
-- ==== Proof.Core.lean ====
/-
One device's run of the kernel, from its whole buffers and its share of the exchange's ghost state to its whole buffers:
the ids and the table untouched, the output at its assembled value, nothing owed, and every cell of the device closed.
-/
module

public import proofs.«01_k».proof.Proof.Mem
public import Idealize.ShloMosaic.Lib.Rounds.Family

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ids : Dev nD → Vec F S512x1 .i32) (tab : Dev nD → Vec F S4096x512 .bf16) (κ : GSem nD τ sig → ℕ) (c : Dev nD)

/-- The tokens of the duties that `c` pays with its `j`-th peer, one per signal and two per copy. -/
def toksOf (j : Fin 7) : sProp 𝕄 :=
  iprop(dutyTok ER (barC (pr c j)) 0 j ∗ (dutyTok ER (dC 0 c j) 0 0 ∗ dutyTok ER (dC 1 (pr c j) j) 0 0)
    ∗ (dutyTok ER (dC 2 c j) 0 0 ∗ dutyTok ER (dC 3 (pr c j) j) 0 0))
/-- The credits of what the `j`-th peer sends. -/
def credOf (j : Fin 7) : sProp 𝕄 := iprop(doneQ c 1 j ∗ doneQ c 3 j)
/-- A DMA cell of `c` just opened. -/
def openedC (x : Fin 4 × Fin 7) : sProp 𝕄 := iprop(atPos ER (dC x.1 c x.2) 0 ∅ 0 ∗ reached ER (dC x.1 c x.2) 0)

/-- A family over the 28 cells, by peer. -/
theorem cells_split (Φ : Fin 4 × Fin 7 → sProp (MT nD τ sig Unit (Elt F) ℕ UU ℕ)) :
    (bigSep Finset.univ Φ : sProp 𝕄) = bigSep Finset.univ fun j : Fin 7 => iprop(Φ (0, j) ∗ Φ (1, j) ∗ Φ (2, j) ∗ Φ (3, j)) := by
  rw [bigSep_univ_prod, show (Finset.univ : Finset (Fin 4)) = {0, 1, 2, 3} from by decide, bigSep_insert (by decide), bigSep_insert (by decide),
    bigSep_insert (by decide), bigSep_singleton, bigSep_sep', bigSep_sep', bigSep_sep']
  rfl

/-- What the body starts with, peer by peer. -/
theorem start_deal : (iprop((bigSep Finset.univ fun j => some' c (raM j)) ∗ (bigSep Finset.univ fun j => some' c (rbM j))
      ∗ (bigSep Finset.univ fun j => some' c (pcM (pr c j))) ∗ bigSep Finset.univ (openedC c) ∗ bigSep Finset.univ (toksOf c)
      ∗ bigSep Finset.univ (credOf c)) : sProp 𝕄)
    ⊢ iprop(bigSep Finset.univ (resB c) ∗ preA c ∗ bigSep Finset.univ (restW c 0 1) ∗ bigSep Finset.univ (ownC c) ∗ bigSep Finset.univ (restW c 2 3)) := by
  unfold preA
  rw [cells_split (openedC c)]
  simp only [← bigSep_sep']
  refine bigSep_mono fun j _ => ?_
  show (iprop(some' c (raM j) ∗ some' c (rbM j) ∗ some' c (pcM (pr c j)) ∗ (openedC c (0, j) ∗ openedC c (1, j) ∗ openedC c (2, j) ∗ openedC c (3, j))
      ∗ toksOf c j ∗ credOf c j) : sProp 𝕄) ⊢ iprop(resB c j ∗ ownA c j ∗ restW c 0 1 j ∗ ownC c j ∗ restW c 2 3 j)
  unfold openedC toksOf credOf resB barPay ownA restW ownC
  rw [pr_pr]
  dsimp only
  iintro ⟨Ha, Hb, Hp, ⟨⟨H0, #R0⟩, ⟨H1, #R1⟩, ⟨H2, #R2⟩, H3, #R3⟩, ⟨TB, ⟨T0, T1⟩, T2, T3⟩, C1, C3⟩
  isplitl [TB Ha Hb]
  · isplitl [TB]; · iexact TB
    isplitl [Ha]; · iexact Ha
    isplitl [Hb]; · iexact Hb
    isplitr; · iexact R1
    iexact R3
  isplitl [Hp T0 T1]
  · isplitl [Hp]; · iexact Hp
    isplitr; · iexact R0
    isplitl [T0]; · iexact T0
    iexact T1
  isplitl [H0 C1 H1]
  · isplitl [H0]; · iexact H0
    isplitl [C1]; · iexact C1
    iexact H1
  isplitl [T2 T3]
  · isplitr; · iexact R2
    isplitl [T2]; · iexact T2
    iexact T3
  isplitl [H2]; · iexact H2
  isplitl [C3]; · iexact C3
  iexact H3

/-- What the body leaves, peer by peer. -/
theorem end_deal : (iprop(bigSep Finset.univ (gotW ids tab c 0 1) ∗ bigSep Finset.univ (gotW ids tab c 2 3)) : sProp 𝕄)
    ⊢ iprop((bigSep Finset.univ fun x : Fin 4 × Fin 7 => atPos ER (dC x.1 c x.2) 1 ∅ 0) ∗ (bigSep Finset.univ fun j => some' c (pcM (pr c j)))
      ∗ (bigSep Finset.univ fun j => some' c (raM j)) ∗ (bigSep Finset.univ fun j => ownsTc c redM (shr j) (redV ids tab c))
      ∗ (bigSep Finset.univ fun j => some' c (rbM j))) := by
  rw [cells_split (fun x : Fin 4 × Fin 7 => atPos ER (dC x.1 c x.2) 1 ∅ 0)]
  simp only [← bigSep_sep']
  refine bigSep_mono fun j _ => ?_
  show (iprop(gotW ids tab c 0 1 j ∗ gotW ids tab c 2 3 j) : sProp 𝕄) ⊢ iprop((atPos ER (dC 0 c j) 1 ∅ 0 ∗ atPos ER (dC 1 c j) 1 ∅ 0
    ∗ atPos ER (dC 2 c j) 1 ∅ 0 ∗ atPos ER (dC 3 c j) 1 ∅ 0) ∗ some' c (pcM (pr c j)) ∗ some' c (raM j) ∗ ownsTc c redM (shr j) (redV ids tab c) ∗ some' c (rbM j))
  unfold gotW
  dsimp only [dmaPay]
  iintro ⟨⟨⟨A0, P0⟩, A1, P1⟩, ⟨A2, P2⟩, A3, P3⟩
  isplitl [A0 A1 A2 A3]
  · isplitl [A0]; · iexact A0
    isplitl [A1]; · iexact A1
    isplitl [A2]; · iexact A2
    iexact A3
  isplitl [P0]; · iexact P0
  isplitl [P1]; · unfold some'; iexists (pieceV ids tab (pr c j) c); iexact P1
  isplitl [P2]; · iexact P2
  unfold some'; iexists (redV ids tab (pr c j)); iexact P3

/-- The cells of `c`, each at its last round, closed. -/
theorem close_all : invs ids tab κ ⊢ iprop((atPos ER (barC c) 1 ∅ 0 ∗ bigSep Finset.univ fun x : Fin 4 × Fin 7 => atPos ER (dC x.1 c x.2) 1 ∅ 0)
    -∗ |={Set.univ}=> (semVal (barC c) 0 ∗ bigSep Finset.univ fun x : Fin 4 × Fin 7 => (semVal (dC x.1 c x.2) 0 : sProp 𝕄))) := by
  iintro #HI ⟨Hb, Hd⟩
  imod (show (iprop(cellInv ER (Rd ids tab) (κ (barC c)) (barC c) ∗ atPos ER (barC c) (0 + 1) ∅ 0) : sProp 𝕄) ⊢ |={Set.univ}=> semVal (barC c) 0 from
    Rounds.cell_close ER (Rd ids tab) (Set.mem_univ _) (fun h => h) (duties_later ids tab (barC c))) $$ [Hb] with Hb
  · isplitr; · iapply (inv_bar ids tab κ c); iexact HI
    iexact Hb
  ihave Hd := (show (iprop(invs ids tab κ ∗ bigSep Finset.univ fun x : Fin 4 × Fin 7 => atPos ER (dC x.1 c x.2) 1 ∅ 0) : sProp 𝕄)
      ⊢ bigSep Finset.univ fun x : Fin 4 × Fin 7 => iprop(cellInv ER (Rd ids tab) (κ (dC x.1 c x.2)) (dC x.1 c x.2) ∗ atPos ER (dC x.1 c x.2) 1 ∅ 0) from
    bigSep_with_persistent (R := invs ids tab κ) (Φ := fun x : Fin 4 × Fin 7 => atPos ER (dC x.1 c x.2) 1 ∅ 0) fun x _ => by
      show (iprop(invs ids tab κ ∗ atPos ER (dC x.1 c x.2) 1 ∅ 0) : sProp 𝕄) ⊢ iprop(cellInv ER (Rd ids tab) (κ (dC x.1 c x.2)) (dC x.1 c x.2) ∗ atPos ER (dC x.1 c x.2) 1 ∅ 0)
      iintro ⟨#HI, H⟩
      isplitr; · iapply (inv_dma ids tab κ x.1 c x.2); iexact HI
      iexact H) $$ [Hd]
  · isplitr; · iexact HI
    iexact Hd
  imod (Rounds.cells_close ER (Rd ids tab) Finset.univ (fun x : Fin 4 × Fin 7 => dC x.1 c x.2) (fun x => κ (dC x.1 c x.2)) (fun _ _ => Set.mem_univ _)
    (fun _ _ h => h) (fun _ => 1) (fun x _ => duties_later ids tab _)) $$ Hd with Hd
  imodintro
  isplitl [Hb]; · iexact Hb
  iexact Hd

/-- What the exchange gives a device at the region's entry. -/
def startG : sProp 𝕄 :=
  iprop((∃ κ, invs ids tab κ) ∗ levAts L lv ∗ (cred (tallyAt (barC c) () 7) ∗ atPos ER (barC c) 0 ∅ 0) ∗ bigSep Finset.univ (openedC c)
    ∗ bigSep Finset.univ (toksOf c) ∗ bigSep Finset.univ (credOf c))
/-- The four scratch buffers, each whole at some contents. -/
def scratch : sProp 𝕄 :=
  iprop((∃ f, parM.view.loc (c : Thread nD τ) ↦{fullShare} f) ∗ (∃ f, ra3M.view.loc (c : Thread nD τ) ↦{fullShare} f)
    ∗ (∃ f, redM.view.loc (c : Thread nD τ) ↦{fullShare} f) ∗ (∃ f, rb3M.view.loc (c : Thread nD τ) ↦{fullShare} f))
/-- What the run leaves. -/
def endG : sProp 𝕄 :=
  iprop((semVal (barC c) 0 ∗ bigSep Finset.univ fun x : Fin 4 × Fin 7 => semVal (dC x.1 c x.2) 0) ∗ scratch c
    ∗ (idM.view.loc (c : Thread nD τ) ↦{fullShare} ids c) ∗ (tabM.view.loc (c : Thread nD τ) ↦{fullShare} tab c)
    ∗ (outM.view.loc (c : Thread nD τ) ↦{fullShare} outV ids tab c) ∗ ow c 0)

theorem wp_upd {α : Type} {p : Prog (TpuEff nD τ sig (Elt F) Λ₀ .tc) α} {Q : α → sProp (MT nD τ sig Unit (Elt F) ℕ UU ℕ)} :
    WP c p (fun a => iprop(|={Set.univ}=> Q a)) ⊢ WP c p Q := wp_fupd _ _ _ _ _

/-- One device's run of the kernel. -/
theorem device_run {h0 : idM.IsWhole} {h1 : tabM.IsWhole} {h2 : outM.IsWhole} {h3 : parM.IsWhole} {h4 : ra3M.IsWhole} {h5 : redM.IsWhole} {h6 : rb3M.IsWhole}
    (f : Buf (Elt F) (outM.view.loc (c : Thread nD τ))) :
    (iprop(startG ids tab c ∗ scratch c ∗ (idM.view.loc (c : Thread nD τ) ↦{fullShare} ids c) ∗ (tabM.view.loc (c : Thread nD τ) ↦{fullShare} tab c)
      ∗ (outM.view.loc (c : Thread nD τ) ↦{fullShare} f) ∗ ow c (OS c 0)) : sProp 𝕄)
    ⊢ WP c (cc0_body (F := F) idM h0 tabM h1 outM h2 parM h3 ra3M h4 redM h5 rb3M h6 cc0_scratch4 cc0_scratch5 cc0_scratch6 cc0_scratch7) (fun _ => endG ids tab c) := by
  unfold startG scratch
  iintro ⟨⟨⟨%κ, #HI⟩, #Hlev, HB, Hop, Ht, Hc⟩, ⟨Hp, Ha, Hr, Hb⟩, Hx, Hy, Ho, HO⟩
  ihave Hp := (cut_par c) $$ Hp
  icases Hp with ⟨⟨Hpc, Hp⟩, Hpl⟩
  ihave Ha := (cut_ra c) $$ Ha
  icases Ha with ⟨Ha, Hal⟩
  ihave Hb := (cut_rb c) $$ Hb
  icases Hb with ⟨Hb, Hbl⟩
  ihave Ho := (cut_out c f) $$ Ho
  icases Ho with ⟨Hoc, Ho⟩
  ihave H := (start_deal c) $$ [Ha Hb Hp Hop Ht Hc]
  · isplitl [Ha]; · iexact Ha
    isplitl [Hb]; · iexact Hb
    isplitl [Hp]; · iexact Hp
    isplitl [Hop]; · iexact Hop
    isplitl [Ht]; · iexact Ht
    iexact Hc
  icases H with ⟨HR, HA, HW, HC, HW'⟩
  iapply (wp_upd c)
  iapply (body_run ids tab κ c) $$ HI Hlev Hx Hy [HO HR] HB HA HW HC [Hr] Hoc HW' [Ho]
  · unfold SB
    rw [above_zero]
    isplitl [HO]; · iexact HO
    iexact HR
  · rw [some_red]; iexact Hr
  · unfold SU
    rw [above_zero, below_zero]
    isplitl [Ho]; · iexact Ho
    iempintro
  iintro Hx Hy HbP HG Hl Hoc HS HU
  unfold SW SU
  rw [above_end, below_end, above_end, below_end, OB_end]
  icases HS with ⟨HO, -, HG'⟩
  icases HU with ⟨-, HU⟩
  ihave H := (end_deal ids tab c) $$ [HG HG']
  · isplitl [HG]; · iexact HG
    iexact HG'
  icases H with ⟨Hat, Hp, Ha, Hr, Hb⟩
  imod (close_all ids tab κ c) $$ HI [HbP Hat] with Hz
  · isplitl [HbP]; · iexact HbP
    iexact Hat
  imodintro
  unfold endG scratch
  isplitl [Hz]; · iexact Hz
  isplitl [Hpc Hpl Hp Hal Ha Hl Hr Hbl Hb]
  · isplitl [Hpc Hp Hpl]
    · iapply (glue_par c)
      isplitl [Hpc Hp]
      · isplitl [Hpc]; · iexact Hpc
        iexact Hp
      iexact Hpl
    isplitl [Ha Hal]
    · iapply (glue_ra c)
      isplitl [Ha]; · iexact Ha
      iexact Hal
    isplitl [Hl Hr]
    · iapply (glue_red ids tab c)
      isplitl [Hl]; · iexact Hl
      iexact Hr
    iapply (glue_rb c)
    isplitl [Hb]; · iexact Hb
    iexact Hbl
  isplitl [Hx]; · iexact Hx
  isplitl [Hy]; · iexact Hy
  isplitl [Hoc HU]
  · iapply (glue_out ids tab c)
    isplitl [Hoc]; · iexact Hoc
    iexact HU
  iexact HO

end Cert.KernelIdeal.Talk

end
-- ==== Proof.Region.lean ====
/-
The region of the launch: every device's body, run from what the launch deals to it, and what the region leaves.
-/
module

public import proofs.«01_k».proof.Proof.Core
public import proofs.«01_k».proof.Proof.Gen.KernelIdeal.Frame
public import Idealize.ShloMosaic.Lib.Pipeline.RegionTalk

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- The ids and the table that each device's kernel reads. -/
def idsOf (c : Dev nD) : Vec F S512x1 .i32 := iblk m c 0 t0_0
def tabOf (c : Dev nD) : Vec F S4096x512 .bf16 := iblk m c 1 t0_0

/-- The exchange's share of what enters the body, and of what leaves it. -/
def inG : sProp 𝕄 := iprop(startG (idsOf m) (tabOf m) c ∗ scratch c ∗ ∃ r, prngReg c r)
def fiG : sProp 𝕄 :=
  iprop((semVal (barC c) 0 ∗ bigSep Finset.univ fun x : Fin 4 × Fin 7 => semVal (dC x.1 c x.2) 0) ∗ scratch c ∗ ∃ r, prngReg c r)

/-- The region's proof data: the windows' arrays as the region finds them, the two inputs left in place, the output at its
    assembled value; the device owes its signals and copies before the one point and nothing after it. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => outV (idsOf m) (tabOf m) c
  Φ t := if t.val = 0 then inG m c else fiG c
  q _ := fullShare
  owed t := if t.val = 0 then OS c 0 else 0

theorem before_ids (t : Fin cfg0.N) (d) : (dat m c).before 0 t d = iblk m c 0 t :=
  ((dat m c).before_in_eq_fetched 0 rfl (fun _ => rfl) (fun _ _ _ => rfl) (fun t => by
      show iblk m c 0 t = _; unfold Dat.blockOf iblk; rfl) t d).trans
    (by unfold Dat.fetched Dat.blockOf iblk; rfl)
theorem before_tab (t : Fin cfg0.N) (d) : (dat m c).before 1 t d = iblk m c 1 t :=
  ((dat m c).before_in_eq_fetched 1 rfl (fun _ => rfl) (fun _ _ _ => rfl) (fun t => by
      show iblk m c 1 t = _; unfold Dat.blockOf iblk; rfl) t d).trans
    (by unfold Dat.fetched Dat.blockOf iblk; rfl)

theorem owesAt_intro (t : Fin (cfg0.N + 1)) (O : CellTallies nD τ sig Unit) (h0 : (dat m c).owed t = O) :
    (ow c O : sProp 𝕄) ⊢ ((dat m c).owesAt () t : sProp 𝕄) := by
  unfold Dat.owesAt Pipeline.owesWithin Dat.bound; rw [h0]
  unfold ow
  iintro ⟨%W, HO⟩; iexists W; isplitr; · ipureintro; exact fun _ _ => Or.inl trivial
  iexact HO
theorem owesAt_elim (t : Fin (cfg0.N + 1)) (O : CellTallies nD τ sig Unit) (h0 : (dat m c).owed t = O) :
    ((dat m c).owesAt () t : sProp 𝕄) ⊢ (ow c O : sProp 𝕄) := by
  unfold Dat.owesAt Pipeline.owesWithin; rw [h0]
  unfold ow
  iintro ⟨%W, -, HO⟩; iexists W; iexact HO

theorem owed_first : (dat m c).owed 0 = OS c 0 := by
  show (if (0 : Fin (cfg0.N + 1)).val = 0 then OS c 0 else 0) = OS c 0; exact if_pos rfl
theorem owed_last : (dat m c).owed (Fin.last _) = 0 := by
  show (if (Fin.last cfg0.N).val = 0 then OS c 0 else 0) = 0
  rw [Fin.val_last, if_neg (by rw [show cfg0.N = 1 from N_0]; decide)]

theorem wp_then {α : Type} {p : Prog (TpuEff nD τ sig (Elt F) Λ₀ .tc) α} {Q Q' : α → sProp (MT nD τ sig Unit (Elt F) ℕ UU ℕ)} :
    (iprop(WP c p Q ∗ (∀ a, Q a -∗ Q' a)) : sProp 𝕄) ⊢ WP c p Q' := wp_wand_r _ _ _

/-- The kernel's body, at the region's one point. -/
theorem body : BodyObligation (dat (F := F) m c) defs₀ 𝒱₀ () Set.univ := fun t => by
  obtain rfl := fin_N0 t
  rw [bigSep_W0, bigSep_W0]
  simp only [before_ids, before_tab]
  show (iprop(inG m c ∗ (dat m c).owesAt () (t0_0 : Fin cfg0.N).castSucc
      ∗ (∃ d, owns (c : Thread nD τ) idM fullShare (idsOf m c)) ∗ (∃ d, owns (c : Thread nD τ) tabM fullShare (tabOf m c))
      ∗ (∃ d, owns (c : Thread nD τ) outM fullShare ((dat m c).before 2 t0_0 d))) : sProp 𝕄)
    ⊢ WP c (cc0_body (F := F) idM (hstage0_0 0) tabM (hstage0_1 0) outM (hstage0_2 0) parM (Memref.isWhole_whole _) ra3M (Memref.isWhole_whole _)
        redM (Memref.isWhole_whole _) rb3M (Memref.isWhole_whole _) cc0_scratch4 cc0_scratch5 cc0_scratch6 cc0_scratch7)
      (fun _ => iprop(fiG c ∗ (dat m c).owesAt () (t0_0 : Fin cfg0.N).succ ∗ owns (c : Thread nD τ) idM fullShare (idsOf m c)
        ∗ owns (c : Thread nD τ) tabM fullShare (tabOf m c) ∗ owns (c : Thread nD τ) outM fullShare (outV (idsOf m) (tabOf m) c)))
  simp only [owns_whole_eq]
  unfold inG
  iintro ⟨⟨HS, Hs, Hp⟩, HO, ⟨%_, %f0, %e0, H0⟩, ⟨%_, %f1, %e1, H1⟩, ⟨%_, %f2, -, H2⟩⟩
  subst e0 e1
  ihave HO := (owesAt_elim m c (t0_0 : Fin cfg0.N).castSucc (OS c 0) (owed_first m c)) $$ HO
  iapply (wp_then c)
  isplitl [HS Hs H0 H1 H2 HO]
  · iapply (device_run (idsOf m) (tabOf m) c f2)
    isplitl [HS]; · iexact HS
    isplitl [Hs]; · iexact Hs
    isplitl [H0]; · iexact H0
    isplitl [H1]; · iexact H1
    isplitl [H2]; · iexact H2
    iexact HO
  iintro %_ H
  unfold endG fiG
  icases H with ⟨Hz, Hs, H0, H1, H2, HO⟩
  isplitl [Hz Hs Hp]
  · isplitl [Hz]; · iexact Hz
    isplitl [Hs]; · iexact Hs
    iexact Hp
  isplitl [HO]; · iapply (owesAt_intro m c (t0_0 : Fin cfg0.N).succ 0 (owed_last m c)); iexact HO
  isplitl [H0]
  · iexists _; isplitr; · ipureintro; rfl
    iexact H0
  isplitl [H1]
  · iexists _; isplitr; · ipureintro; rfl
    iexact H1
  iexists _; isplitr; · ipureintro; rfl
  iexact H2

/-! ## The record -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

/-- The kernel's own semaphores: its four families of seven. -/
def osem (x : Fin 4 × Fin 7) : SemLoc sig := .dma (dq x.1 x.2)

theorem own_facts : Pipeline.OwnSemFacts spec0 osem := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Each device's buffers as the region finds them, and as it leaves them: the result array at what the pipeline writes back. -/
def Win (c : Dev nD) : Valuation τ sig (Elt F) := StableHlo.after hostOps0 (fun b => m (c, b))
def Wout (c : Dev nD) : Valuation τ sig (Elt F) := Function.update (Win m c) (Proc.devRef .tc main_v2) ((dat m c).arrAt 2 cfg0.N)
/-- The held buffers that no window stages. -/
def Sr : Finset (DevRef τ sig) := Pipeline.ucRefs τ sig \ Pipeline.arrRefs (τ := τ) spec0

/-- What the launch gives the device for the exchange, its DMA cells not yet open. -/
def keep : sProp 𝕄 :=
  iprop((∃ κ, invs (idsOf m) (tabOf m) κ ∗ bigSep Finset.univ fun x : Fin 4 × Fin 7 => openTok ER (dC x.1 c x.2))
    ∗ (cred (tallyAt (barC c) () 7) ∗ atPos ER (barC c) 0 ∅ 0) ∗ bigSep Finset.univ (toksOf c) ∗ bigSep Finset.univ (credOf c))

theorem own_sems : (Pipeline.ownSems0 osem c : sProp 𝕄) = bigSep Finset.univ fun x : Fin 4 × Fin 7 => semVal (dC x.1 c x.2) 0 := rfl

/-- At the region's entry the DMA cells are opened. -/
theorem open_cells : (iprop(keep m c ∗ Pipeline.ownSems0 osem c ∗ levAts L lv) : sProp 𝕄) ⊢ |={Set.univ}=> startG (idsOf m) (tabOf m) c := by
  rw [own_sems]
  unfold keep startG
  iintro ⟨⟨⟨%κ, #HI, Ho⟩, HB, HT, HC⟩, Hz, Hlev⟩
  ihave Ho := (show (iprop(invs (idsOf m) (tabOf m) κ ∗ bigSep Finset.univ fun x : Fin 4 × Fin 7 => openTok ER (dC x.1 c x.2)) : sProp 𝕄)
      ⊢ bigSep Finset.univ fun x : Fin 4 × Fin 7 => iprop(cellInv ER (Rd (idsOf m) (tabOf m)) (κ (dC x.1 c x.2)) (dC x.1 c x.2) ∗ openTok ER (dC x.1 c x.2)) from
    bigSep_with_persistent (R := invs (idsOf m) (tabOf m) κ) (Φ := fun x : Fin 4 × Fin 7 => openTok ER (dC x.1 c x.2)) fun x _ => by
      show (iprop(invs (idsOf m) (tabOf m) κ ∗ openTok ER (dC x.1 c x.2)) : sProp 𝕄)
        ⊢ iprop(cellInv ER (Rd (idsOf m) (tabOf m)) (κ (dC x.1 c x.2)) (dC x.1 c x.2) ∗ openTok ER (dC x.1 c x.2))
      iintro ⟨#HI, H⟩
      isplitr; · iapply (inv_dma (idsOf m) (tabOf m) κ x.1 c x.2); iexact HI
      iexact H) $$ [Ho]
  · isplitr; · iexact HI
    iexact Ho
  imod (Rounds.cells_open ER (Rd (idsOf m) (tabOf m)) Finset.univ (fun x : Fin 4 × Fin 7 => dC x.1 c x.2) (fun x => κ (dC x.1 c x.2)) (fun _ _ => Set.mem_univ _)) $$ [Ho Hz] with Ho
  · isplitl [Ho]; · iexact Ho
    iexact Hz
  imodintro
  isplitr; · iexists κ; iexact HI
  isplitl [Hlev]; · iexact Hlev
  isplitl [HB]; · iexact HB
  isplitl [Ho]; · unfold openedC; iexact Ho
  isplitl [HT]; · iexact HT
  iexact HC

theorem scratch_eq : (Pipeline.scopedRest (Ix := Unit) (Name := ℕ) (U := UU) (Lvl := ℕ) (Val := Elt F) spec0 c : sProp 𝕄) = scratch c := scopedRest0_eq c

theorem held_none (V : Valuation τ sig (Elt F)) : (StableHlo.held (c.tc : Thread nD τ) ∅ V : sProp 𝕄) = BI.emp := by
  unfold StableHlo.held; exact BI.bigSep_empty

theorem enter : (iprop(Pipeline.scopedRest (Pipeline.pin (pcfgs (F := F)) adm 0).spec c ∗ (∃ r, prngReg c r) ∗ StableHlo.held (c.tc : Thread nD τ) ∅ (Win m c)
      ∗ startG (idsOf m) (tabOf m) c) : sProp 𝕄)
    ⊢ (pdats m 0 c).Φ 0 := by
  show (iprop(Pipeline.scopedRest spec0 c ∗ (∃ r, prngReg c r) ∗ StableHlo.held (c.tc : Thread nD τ) ∅ (Win m c) ∗ startG (idsOf m) (tabOf m) c) : sProp 𝕄) ⊢ inG m c
  rw [scratch_eq]
  unfold inG
  iintro ⟨Hs, Hp, -, HS⟩
  isplitl [HS]; · iexact HS
  isplitl [Hs]; · iexact Hs
  iexact Hp

theorem leave : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) ∅ (Wout m c)
      ∗ Pipeline.ownSems0 osem c ∗ semVal (barC c) 0) : sProp 𝕄) := by
  show fiG c ⊢ (iprop(Pipeline.scopedRest spec0 c ∗ (∃ r, prngReg c r) ∗ StableHlo.held (c.tc : Thread nD τ) ∅ (Wout m c) ∗ Pipeline.ownSems0 osem c
    ∗ semVal (barC c) 0) : sProp 𝕄)
  rw [scratch_eq, own_sems, held_none]
  unfold fiG
  iintro ⟨⟨Hb, Hd⟩, Hs, Hp⟩
  isplitl [Hs]; · iexact Hs
  isplitl [Hp]; · iexact Hp
  isplitr; · iempintro
  isplitl [Hd]; · iexact Hd
  iexact Hb

theorem cut (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then OS c 0 else 0 := rfl
  rw [e] at h
  split at h
  · exact OS_pos h
  · exact absurd h (Nat.lt_irrefl 0)

theorem lv_stage (w : Fin 3) (s : Fin (spec0 w).nbuf) : lvOf (.dma ((spec0 w).sem s)) = 0 := by
  revert w s; decide

theorem in_arr (w : Fin 3) (n : ℕ) (h : (cfg0.win w).isOut = false) :
    (dat m c).arrAt w n = Win m c (Proc.devRef .tc (Pipeline.arrRef spec0 w)) := (dat m c).arrAt_in w h n

theorem out_arr (w : Fin 3) : (dat m c).arrAt w cfg0.N = Wout m c (Proc.devRef .tc (Pipeline.arrRef spec0 w)) := by
  fin_cases w
  · exact (in_arr m c 0 _ rfl).trans (Function.update_of_ne (by decide) _ _).symm
  · exact (in_arr m c 1 _ rfl).trans (Function.update_of_ne (by decide) _ _).symm
  · exact (show Wout m c (Proc.devRef .tc main_v2) = (dat m c).arrAt 2 cfg0.N from Function.update_self _ _ _).symm

theorem rest_same : ∀ b ∈ (Sr : Finset (DevRef τ sig)) \ ∅, Wout m c b = Win m c b := fun b hb =>
  Function.update_of_ne (fun e => by subst e; exact absurd hb (by decide)) _ _

theorem share_full (w : Fin 3) : (dat m c).share w = fullShare := by
  unfold Dat.share; split <;> rfl

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ Sr (Finset.empty_subset _) kit rfl (fun c => (body m c).loose)
    (fun _ => 0) (fun c => OS c 0) (fun c => (owed_first m c).trans (zero_add _).symm) (fun c => owed_last m c) (fun _ => rfl) (fun c w => share_full m c w)
    (Win m) (Wout m) (rest_same m)
    (keep m) (fun c => semVal (barC c) 0) (fun c => startG (idsOf m) (tabOf m) c) (fun c => semVal (barC c) 0) (open_cells m) (enter m) (leave m)
    (fun c => by iintro H; imodintro; iexact H)
    (fun _ => 0)
    ⟨fun c w s => L_tc c _ _, fun c w s => le_of_eq (lv_stage w s), fun c t g i h => cut m c t g i h⟩
    (fun _ => iprop(emp))
    (fun _ _ => rfl) (out_arr m)

end Cert.KernelIdeal.Talk

end
-- ==== Proof.Deal.lean ====
/-
The launch: the exchange's tokens and credits, dealt to the devices that pay and await them.
-/
module

public import proofs.«01_k».proof.Proof.Region
public import Idealize.ShloMosaic.Harness.Basic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tokens -/

/-- The duties of the barrier cells, one per peer, and of the DMA cells, one each. -/
def barTok : Dev nD × Fin 7 ↪ GSem nD τ sig × ℕ × Fin 7 :=
  ⟨fun x => (barC x.1, 0, x.2), fun _ _ h => Prod.ext (congrArg (fun t : GSem nD τ sig × ℕ × Fin 7 => t.1.1.1) h)
    (congrArg (fun t : GSem nD τ sig × ℕ × Fin 7 => t.2.2) h)⟩
def dmaTok : Dev nD × (Fin 4 × Fin 7) ↪ GSem nD τ sig × ℕ × Fin 7 :=
  ⟨fun x => (dEmb x, 0, 0), fun _ _ h => dEmb.injective (congrArg Prod.fst h)⟩
def dutyToks : Finset (GSem nD τ sig × ℕ × Fin 7) := Finset.univ.map barTok ∪ Finset.univ.map dmaTok

theorem toks_disjoint : Disjoint (Finset.univ.map barTok) (Finset.univ.map dmaTok) := by
  rw [Finset.disjoint_left]
  rintro g h₁ h₂
  obtain ⟨x, -, rfl⟩ := Finset.mem_map.mp h₁
  obtain ⟨y, -, h⟩ := Finset.mem_map.mp h₂
  have e : (SemLoc.dma (dq y.2.1 y.2.2) : SemLoc sig) = .reg barS := congrArg (fun t : GSem nD τ sig × ℕ × Fin 7 => t.1.2) h
  exact absurd e (by rintro ⟨⟩)

theorem cells_disjoint : Disjoint (barCells : Finset (GSem nD τ sig)) dCells := by
  rw [Finset.disjoint_left]
  rintro g h₁ h₂
  obtain ⟨x, -, rfl⟩ := Finset.mem_map.mp h₁
  obtain ⟨y, -, h⟩ := Finset.mem_map.mp h₂
  have e : (SemLoc.dma (dq y.2.1 y.2.2) : SemLoc sig) = .reg barS := congrArg (fun t : GSem nD τ sig => t.2) h
  exact absurd e (by rintro ⟨⟩)

/-- A device and one of its peers, seen from the peer. -/
def pairs : Dev nD × Fin 7 ≃ Dev nD × Fin 7 :=
  ⟨fun x => (pr x.1 x.2, x.2), fun x => (pr x.1 x.2, x.2), fun x => Prod.ext (pr_pr x.1 x.2) rfl, fun x => Prod.ext (pr_pr x.1 x.2) rfl⟩

/-- A family over the devices and their peers, each device's handed to its peer. -/
theorem around (Φ : Dev nD → Fin 7 → sProp (MT nD τ sig Unit (Elt F) ℕ UU ℕ)) :
    (bigSep Finset.univ fun c => bigSep Finset.univ fun j => Φ c j) = bigSep Finset.univ fun c => bigSep Finset.univ fun j => Φ (pr c j) j := by
  rw [← bigSep_univ_prod fun x : Dev nD × Fin 7 => Φ x.1 x.2, bigSep_univ_equiv pairs, bigSep_univ_prod]
  rfl

/-- Every token, with the device that pays the duty. -/
theorem toks_deal : (bigSep dutyToks fun x => (dutyTok ER x.1 x.2.1 x.2.2 : sProp 𝕄)) = bigSep Finset.univ fun c => bigSep Finset.univ (toksOf c) := by
  unfold dutyToks
  rw [show (bigSep (Finset.univ.map barTok ∪ Finset.univ.map dmaTok) fun x => (dutyTok ER x.1 x.2.1 x.2.2 : sProp 𝕄))
      = iprop((bigSep (Finset.univ.map barTok) fun x => dutyTok ER x.1 x.2.1 x.2.2) ∗ bigSep (Finset.univ.map dmaTok) fun x => dutyTok ER x.1 x.2.1 x.2.2) from
    bigSep_union toks_disjoint, bigSep_map, bigSep_map, bigSep_univ_prod, bigSep_univ_prod]
  have h : (bigSep Finset.univ fun c : Dev nD => bigSep Finset.univ fun x : Fin 4 × Fin 7 =>
        (dutyTok ER (dmaTok (c, x)).1 (dmaTok (c, x)).2.1 (dmaTok (c, x)).2.2 : sProp 𝕄))
      = bigSep Finset.univ fun c : Dev nD => bigSep Finset.univ fun j : Fin 7 => iprop(dutyTok ER (dC 0 c j) 0 0 ∗ dutyTok ER (dC 1 c j) 0 0
          ∗ dutyTok ER (dC 2 c j) 0 0 ∗ dutyTok ER (dC 3 c j) 0 0) :=
    bigSep_congr fun c _ => cells_split fun x => dutyTok ER (dC x.1 c x.2) 0 0
  rw [h]
  unfold toksOf
  simp only [bigSep_sep']
  rw [around (fun c j => dutyTok ER (dC 1 c j) 0 0), around (fun c j => dutyTok ER (dC 3 c j) 0 0)]
  have hb := around (F := F) (fun c j => dutyTok ER (barTok (c, j)).1 (barTok (c, j)).2.1 (barTok (c, j)).2.2)
  rw [hb]
  refine BI.Entails.antisymm ?_ ?_
  · show (iprop(_ ∗ _ ∗ _ ∗ _ ∗ _) : sProp 𝕄) ⊢ iprop(_ ∗ (_ ∗ _) ∗ _ ∗ _)
    iintro ⟨B, T0, T1, T2, T3⟩
    isplitl [B]; · iexact B
    isplitl [T0 T1]
    · isplitl [T0]; · iexact T0
      iexact T1
    isplitl [T2]; · iexact T2
    iexact T3
  · show (iprop(_ ∗ (_ ∗ _) ∗ _ ∗ _) : sProp 𝕄) ⊢ iprop(_ ∗ _ ∗ _ ∗ _ ∗ _)
    iintro ⟨B, ⟨T0, T1⟩, T2, T3⟩
    isplitl [B]; · iexact B
    isplitl [T0]; · iexact T0
    isplitl [T1]; · iexact T1
    isplitl [T2]; · iexact T2
    iexact T3

/-! ## The credits -/

theorem seven (g : GSem nD τ sig) : (∑ _j : Fin 7, tallyAt g () 1 : CellTallies nD τ sig Unit) = tallyAt g () 7 := by
  simp only [Fin.sum_univ_seven, tallyAt_add]

/-- What the devices owe at the launch, as each device's credits. -/
theorem creds (c : Dev nD) : (Pipeline.launchCred (fun d => OS d 0) c : sProp 𝕄)
    ⊢ iprop(cred (tallyAt (barC c) () 7) ∗ bigSep Finset.univ (credOf c)) := by
  have e : (fun d => OS d 0) = fun d => (∑ j, dueB d j + ∑ j, dueA d j) + ∑ j, dueBar d j :=
    funext fun d => by unfold OS OA OB; rw [dueFrom_zero, dueFrom_zero, dueFrom_zero]
  rw [e, Pipeline.launchCred_add, Pipeline.launchCred_add, Pipeline.launchCred_sum Finset.univ (fun j d => dueB d j),
    Pipeline.launchCred_sum Finset.univ (fun j d => dueA d j), Pipeline.launchCred_sum Finset.univ (fun j d => dueBar d j), ← seven, Pipeline.cred_finsetSum]
  unfold credOf
  rw [bigSep_sep']
  have hB : (bigSep Finset.univ fun j => (Pipeline.launchCred (fun d => dueB d j) c : sProp 𝕄)) ⊢ bigSep Finset.univ (doneQ c 3) :=
    bigSep_mono fun j _ => Pipeline.launchCred_tallyAt (.dma (dq 3 j)) (fun d => pr d j) (fun d => pr d j) (fun d => pr_pr d j) (fun d => pr_pr d j) () N c
  have hA : (bigSep Finset.univ fun j => (Pipeline.launchCred (fun d => dueA d j) c : sProp 𝕄)) ⊢ bigSep Finset.univ (doneQ c 1) :=
    bigSep_mono fun j _ => Pipeline.launchCred_tallyAt (.dma (dq 1 j)) (fun d => pr d j) (fun d => pr d j) (fun d => pr_pr d j) (fun d => pr_pr d j) () N c
  have hS : (bigSep Finset.univ fun j => (Pipeline.launchCred (fun d => dueBar d j) c : sProp 𝕄)) ⊢ bigSep Finset.univ fun _ : Fin 7 => cred (tallyAt (barC c) () 1) :=
    bigSep_mono fun j _ => Pipeline.launchCred_tallyAt (.reg barS) (fun d => pr d j) (fun d => pr d j) (fun d => pr_pr d j) (fun d => pr_pr d j) () 1 c
  iintro ⟨⟨HB, HA⟩, HS⟩
  isplitl [HS]; · iapply hS; iexact HS
  isplitl [HA]; · iapply hA; iexact HA
  iapply hB; iexact HB

end Cert.KernelIdeal.Talk

end
-- ==== Proof.Run.lean ====
/-
The run of @main on the eight devices: the ids and the table unchanged, each device's result at its assembled value, every
semaphore counter back at zero.
-/
module

public import proofs.«01_k».proof.Proof.Deal
public import Idealize.ShloMosaic.Lib.Pipeline.ValueKit.Geometry

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## @main's two segments -/

/-- A device's buffers as launched. -/
def W₀ (c : Dev nD) : Valuation τ sig (Elt F) := fun b => m (c, b)
/-- What rides beside the buffers: the exchange's share, the generator's register, and what the device owes. -/
def ride (c : Dev nD) : sProp 𝕄 := iprop(keep m c ∗ (∃ r, prngReg c r) ∗ ow c (OS c 0))

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h =>
  List.forall_iff_forall_mem.mp hostOps0_fresh op h

def host : Pipeline.HostSeg (Name := ℕ) (U := UU) (pcfgs (F := F)) defs₀ 𝒱₀ L lv :=
  Pipeline.HostSeg.ofOps _ _ _ _ _ (Pipeline.ucRefs τ sig) hostOps0 ops_sub ops_fresh (W₀ m) (ride m)
def segs : List (Pipeline.Seg (pcfgs (F := F)) adm (pdats m) () defs₀ 𝒱₀ L lv) := [.host (host m), .region (reg m)]

/-- The unscoped buffers are the region's arrays and the rest. -/
theorem held_split (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) Sr V) :=
  StableHlo.held_sub_split (c : Thread nD τ) (Pipeline.arrRefs_sub_ucRefs spec0 (by decide)) V

theorem reg_pre : (iprop(StableHlo.held (c : Thread nD τ) (Pipeline.ucRefs τ sig) (Win m c) ∗ ride m c) : sProp 𝕄) ⊢ (reg m).pre c := by
  show (iprop(StableHlo.held (c : Thread nD τ) (Pipeline.ucRefs τ sig) (Win m c) ∗ ride m c) : sProp 𝕄)
    ⊢ iprop(StableHlo.held (c.tc : Thread nD τ) (Pipeline.arrRefs (τ := τ) spec0) (Win m c) ∗ (∃ r, prngReg c r)
      ∗ (StableHlo.held (c.tc : Thread nD τ) Sr (Win m c) ∗ emp) ∗ keep m c ∗ ∃ Wd, owes (c : Thread nD τ) (0 + OS c 0) Wd)
  rw [held_split, zero_add]
  unfold ride ow
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

/-- What a device ends with. -/
def fin (c : Dev nD) : sProp 𝕄 := iprop(StableHlo.held (c : Thread nD τ) (Pipeline.ucRefs τ sig) (Wout m c) ∗ semVal (barC c) 0)

theorem reg_post : (reg m).post c ⊢ (iprop(fin m c ∗ ∃ W, owes (c : Thread nD τ) (0 : CellTallies nD τ sig Unit) W) : sProp 𝕄) := by
  show (iprop(StableHlo.held (c.tc : Thread nD τ) (Pipeline.arrRefs (τ := τ) spec0) (Wout m c) ∗ (∃ r, prngReg c r)
      ∗ (StableHlo.held (c.tc : Thread nD τ) Sr (Wout m c) ∗ emp) ∗ semVal (barC c) 0 ∗ ∃ Wd, owes (c : Thread nD τ) (0 : CellTallies nD τ sig Unit) Wd) : sProp 𝕄) ⊢ _
  unfold fin
  rw [held_split]
  iintro ⟨Ha, -, ⟨Hr, -⟩, Hb, HO⟩
  isplitr [HO]
  · isplitl [Ha Hr]
    · isplitl [Ha]; · iexact Ha
      iexact Hr
    iexact Hb
  iexact HO

/-! ## The launch -/

abbrev launchX : sProp 𝕄 := BI.own (ER (launchOf (barCells : Finset (GSem nD τ sig)) dCells dutyToks))

/-- The launch element: the pipeline's, and the exchange's. -/
def u₀ : UU :=
  (initOf (Pipeline.cells (Pipeline.pin (pcfgs (F := F)) adm) cellOf_inj) (Pipeline.launchToks (Pipeline.pin (pcfgs (F := F)) adm) cellOf_inj),
    launchOf barCells dCells dutyToks)

/-- The exchange's element, held by the first device until it is dealt. -/
def first (X : sProp (MT nD τ sig Unit (Elt F) ℕ UU ℕ)) (c : Dev nD) : sProp 𝕄 := if c = 0 then X else iprop(emp)
theorem first_all (X : sProp (MT nD τ sig Unit (Elt F) ℕ UU ℕ)) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

theorem bar_sem (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What of a device's launch holdings isn't dealt. -/
def own (c : Dev nD) : sProp 𝕄 :=
  iprop(StableHlo.held (c : Thread nD τ) (Pipeline.ucRefs τ sig) (W₀ m c) ∗ (cred (tallyAt (barC c) () 7) ∗ bigSep Finset.univ (credOf c))
    ∗ ow c (OS c 0) ∗ ∃ r, prngReg c r)
/-- What of the exchange's element is dealt to it. -/
def share (c : Dev nD) : sProp 𝕄 :=
  iprop(atPos ER (barC c) 0 ∅ 0 ∗ (bigSep Finset.univ fun x : Fin 4 × Fin 7 => openTok ER (dC x.1 c x.2)) ∗ bigSep Finset.univ (toksOf c))
abbrev T₀ (c : Dev nD) : sProp 𝕄 := iprop(StableHlo.held (c : Thread nD τ) (Pipeline.ucRefs τ sig) (W₀ m c) ∗ ride m c)

theorem T₀_intro (κ : GSem nD τ sig → ℕ) : (iprop(invs (idsOf m) (tabOf m) κ ∗ (share c ∗ own m c)) : sProp 𝕄) ⊢ T₀ m c := by
  unfold T₀ ride keep share own
  iintro ⟨#HI, ⟨Hat, Ho, HT⟩, Hh, ⟨HB, HC⟩, HO, Hp⟩
  isplitl [Hh]; · iexact Hh
  isplitl [Hat Ho HT HB HC]
  · isplitl [Ho]
    · iexists κ
      isplitr; · iexact HI
      iexact Ho
    isplitl [HB Hat]
    · isplitl [HB]; · iexact HB
      iexact Hat
    isplitl [HT]; · iexact HT
    iexact HC
  isplitl [Hp]; · iexact Hp
  iexact HO

theorem launch_dev : (iprop(unscopedBufs c (fun b => m ((c : Thread nD τ).loc b)) ∗ unscopedSems0 c
      ∗ owes (c : Thread nD τ) (OS c 0) ∅ ∗ Pipeline.launchCred (fun d => OS d 0) c ∗ prngReg c (ρ c) ∗ first launchX c) : sProp 𝕄)
    ⊢ iprop(own m c ∗ (semVal (barC c) 0 ∗ first launchX c)) := by
  rw [show (unscopedBufs c (fun b => m ((c : Thread nD τ).loc b)) : sProp 𝕄) = StableHlo.held (c : Thread nD τ) (Pipeline.ucRefs τ sig) (W₀ m c) from
    Pipeline.unscopedBufs_held c (W₀ m c), bar_sem]
  unfold own ow
  iintro ⟨Hh, Hb, HO, Hcr, Hp, HG⟩
  ihave Hc := (creds (F := F) c) $$ Hcr
  isplitl [Hh Hc HO Hp]
  · isplitl [Hh]; · iexact Hh
    isplitl [Hc]; · iexact Hc
    isplitl [HO]; · iexists ∅; iexact HO
    iexists (ρ c); iexact Hp
  isplitl [Hb]; · iexact Hb
  iexact HG

theorem all_bar (Φ : GSem nD τ sig → sProp (MT nD τ sig Unit (Elt F) ℕ UU ℕ)) :
    (bigSep barCells Φ : sProp 𝕄) = bigSep Finset.univ fun c => Φ (barC c) := bigSep_map (s := Finset.univ) barEmb
theorem all_dma (Φ : GSem nD τ sig → sProp (MT nD τ sig Unit (Elt F) ℕ UU ℕ)) :
    (bigSep dCells Φ : sProp 𝕄) = bigSep Finset.univ fun c => bigSep Finset.univ fun x : Fin 4 × Fin 7 => Φ (dC x.1 c x.2) := by
  rw [bigSep_map, bigSep_univ_prod]; rfl

/-- The launch: every cell's invariant is made, the DMA cells' dormant, and everything is dealt. -/
theorem init :
    (iprop((bigSep Finset.univ fun c : Dev nD => iprop(unscopedBufs c (fun b => m ((c : Thread nD τ).loc b)) ∗ unscopedSems0 c
          ∗ owes (c : Thread nD τ) (OS c 0) ∅ ∗ Pipeline.launchCred (fun d => OS d 0) c ∗ prngReg c (ρ c) ∗ first launchX c)) ∗ levAts L lv) : sProp 𝕄)
      ⊢ |={Set.univ}=> bigSep Finset.univ (T₀ m) := by
  iintro ⟨H, -⟩
  ihave H' := (show (bigSep Finset.univ fun c : Dev nD => iprop(unscopedBufs c (fun b => m ((c : Thread nD τ).loc b)) ∗ unscopedSems0 c
          ∗ owes (c : Thread nD τ) (OS c 0) ∅ ∗ Pipeline.launchCred (fun d => OS d 0) c ∗ prngReg c (ρ c) ∗ first launchX c))
      ⊢ (bigSep Finset.univ fun c : Dev nD => iprop(own m c ∗ (semVal (barC c) 0 ∗ first launchX c)) : sProp 𝕄) from
    bigSep_mono fun c _ => launch_dev m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (first (launchX (F := F))) ⊢ launchX from Entails.of_eq (first_all _)) $$ HG
  imod (Rounds.fund_launch ER (Rd (idsOf m) (tabOf m)) cells_disjoint (fun g _ h => h) dutyToks) $$ [Hv Hu] with ⟨%κ, -, #Hinv, #Hr, Hat, Hopen, Htok⟩
  · isplitl [Hv]
    · iapply (Entails.of_eq (all_bar fun g => semVal g 0).symm); iexact Hv
    · iexact Hu
  imodintro
  iapply (bigSep_with_persistent (R := invs (idsOf m) (tabOf m) κ) (Φ := fun c => iprop(share c ∗ own m c)) fun c _ => T₀_intro m c κ)
  isplitr
  · unfold invs
    isplitr; · iexact Hinv
    iexact Hr
  iapply Smoke.bigSep_pair
  isplitr [HB]
  · unfold share
    iapply Smoke.bigSep_pair; isplitl [Hat]; · iapply (Entails.of_eq (all_bar fun g => atPos ER g 0 ∅ 0)); iexact Hat
    iapply Smoke.bigSep_pair; isplitl [Hopen]; · iapply (Entails.of_eq (all_dma fun g => openTok ER g)); iexact Hopen
    iapply (Entails.of_eq (toks_deal (F := F))); iexact Htok
  · iexact HB

/-! ## The run -/

theorem unscoped_eq : ∀ sm : SemLoc sig, sm.isScoped .tc = false → sm = .reg barS := by decide

theorem bufs_eq (V : Valuation τ sig (Elt F)) : (StableHlo.held (c : Thread nD τ) (Pipeline.ucRefs τ sig) V : sProp 𝕄)
    = iprop(((c : Thread nD τ).loc main_arg0 ↦{fullShare} V (Proc.devRef .tc main_arg0)) ∗ ((c : Thread nD τ).loc main_arg1 ↦{fullShare} V (Proc.devRef .tc main_arg1))
      ∗ ((c : Thread nD τ).loc main_v1 ↦{fullShare} V (Proc.devRef .tc main_v1)) ∗ ((c : Thread nD τ).loc main_v2 ↦{fullShare} V (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

theorem end_arg0 : Wout m c (Proc.devRef .tc main_arg0) = m ((c : Thread nD τ).loc main_arg0) :=
  (Function.update_of_ne (by decide) _ _).trans (V_main_arg0 m c)
theorem end_arg1 : Wout m c (Proc.devRef .tc main_arg1) = m ((c : Thread nD τ).loc main_arg1) :=
  (Function.update_of_ne (by decide) _ _).trans (V_main_arg1 m c)
/-- The output window is written back once, whole. -/
theorem end_out : Wout m c (Proc.devRef .tc main_v2) = outV (idsOf m) (tabOf m) c :=
  (Function.update_self _ _ _).trans
    ((dat m c).arrAt_eq_of_after_last 2 t0_0 (by decide +kernel) (outV (idsOf m) (tabOf m) c) (fun j => rfl))

set_option backward.isDefEq.respectTransparency.types false in
/-- The run: from any memory with zero counters every weakly fair execution of @main on the eight devices ends, the
    arguments as they were, every device's result at its assembled value, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV (idsOf m) (tabOf m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; exact BI.Entails.refl _)
    (by simp only [segs, Pipeline.Seg.pipes_host, Pipeline.Seg.pipes_region, Pipeline.Seg.pipes_nil]; decide)
    (O₀ := fun c => OS c 0) (hL := L_of_ne) (G := first launchX) (u₀ := u₀ (F := F))
    (hu₀ := by
      unfold u₀
      iintro Hu
      ihave H := (ownU_pair _ _) $$ Hu
      icases H with ⟨HP, HX⟩
      imodintro
      isplitl [HP]; · iexact HP
      rw [first_all]; iexact HX)
    (T₀ := T₀ m) (Tₙ := fin m)
    (hch := ⟨fun c => .rfl, fun c => reg_pre m c, fun c => reg_post m c⟩)
    (hinit := init m ρ)
    (QY := fun c s => (s.mem ((c : Thread nD τ).loc main_arg0) = Wout m c (Proc.devRef .tc main_arg0)
        ∧ s.mem ((c : Thread nD τ).loc main_arg1) = Wout m c (Proc.devRef .tc main_arg1)
        ∧ s.mem ((c : Thread nD τ).loc main_v2) = Wout m c (Proc.devRef .tc main_v2)) ∧ s.sem (barC c) = 0)
    (hfin := fun c s' => by
      unfold fin; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans (end_arg0 m c), h1.trans (end_arg1 m c), h2.trans (end_out m c)⟩,
      sem_eq_zero hs fun c sm hsm => by
        obtain rfl := unscoped_eq sm hsm
        exact (h c).2⟩)

end Cert.KernelIdeal.Talk

end
-- ==== Proof.Inputs.lean ====
/-
What a device's two operands hold when the kernel's body starts: the ids, as a column, and the device's block of the table.
And the result of the whole run over the extended reals, from blocks of one table and one list of ids in range.
-/
module

public import proofs.«01_k».proof.Proof.Value
public import proofs.«01_k».proof.Proof.Run
public import Idealize.ShloMosaic.Lib.StableHlo.Run

@[expose] public section

noncomputable section

namespace Cert.KernelIdeal.Talk

open Cert.KernelIdeal Cert.KernelIdeal.Gen
open Idealize.ShloMosaic hiding ix1 eq_ix1 ix2 eq_ix2
open Idealize.ShloMosaic.TcCoe
open Idealize.ShloMosaic.ValueIdx

section Any
variable {F : FTy → Type} [FloatOps F] (m : (ℓ : Loc nD τ sig) → Buf (Elt F) ℓ) (c : Dev nD)

/-- The table's operand is the device's block as launched. -/
theorem tabOf_eq : tabOf m c = m ((c : Thread nD τ).loc main_arg1) := by
  refine Eq.trans (funext fun i => ?_) (V_main_arg1 m c)
  refine congrArg (V m c main_arg1) (funext fun a => Fin.ext ?_)
  match a with
  | ⟨0, _⟩ => show 0 * 4096 + 1 * (i 0).val = (i 0).val; omega
  | ⟨1, _⟩ => show 0 * 512 + 1 * (i 1).val = (i 1).val; omega

/-- The column of ids, as the host leaves it, is the list of ids. -/
theorem V_main_v1 : V m c main_v1 = shapeCast S512x1 (m ((c : Thread nD τ).loc main_arg0)) shapeCasts_S512_S512x1 := by
  unfold V hostOps0
  after_results <;> rfl

/-- The ids' operand is the list of ids, as a column. -/
theorem idsOf_eq : idsOf m c = shapeCast S512x1 (m ((c : Thread nD τ).loc main_arg0)) shapeCasts_S512_S512x1 := by
  refine Eq.trans (funext fun i => ?_) (V_main_v1 m c)
  refine congrArg (V m c main_v1) (funext fun a => Fin.ext ?_)
  match a with
  | ⟨0, _⟩ => show 0 * 512 + 1 * (i 0).val = (i 0).val; omega
  | ⟨1, _⟩ => show 0 * 1 + 1 * (i 1).val = (i 1).val; omega

end Any

/-- A list as a column, read at a row. -/
theorem col_apply {α : Type} (x : S512.Idx → α) (t : Fin 512) : shapeCast S512x1 x shapeCasts_S512_S512x1 (ix2 t 0) = x (ix1 t) := by
  refine congrArg x (Shape.reshapeEquiv_eq_of_rowMajor _ ?_)
  rw [Shape.rowMajor_val_two, Shape.rowMajor_val_one]
  show t.val = t.val * 1 + 0
  omega

/-- From the same list of ids on every device, each id in range, and each device its block of one table: the devices hold
    what the value needs. -/
theorem held (m : (ℓ : Loc nD τ sig) → Buf (Elt Ideal) ℓ) (ids : IVec S512 32) (E : (⟨2, ![32768, 512]⟩ : Shape).Idx → EReal)
    (hi : ∀ c : Dev nD, m ((c : Thread nD τ).loc main_arg0) = ids) (hlt : ∀ t : Fin 512, (ids (ix1 t)).toNat < 32768)
    (hE : ∀ c : Dev nD, m ((c : Thread nD τ).loc main_arg1) = Layout.block ⟨2, ![4096, 512]⟩ ⟨2, ![32768, 512]⟩ 0 8 c E) :
    Held (idsOf m) (tabOf m) (shapeCast S512x1 ids shapeCasts_S512_S512x1) (fun k d => E (ix2 k d)) where
  ids_eq c := (idsOf_eq m c).trans (by rw [hi c])
  lt t := by rw [col_apply]; exact hlt t
  tab_eq c k d := by
    rw [tabOf_eq, hE c]
    refine congrArg E (funext fun a => Fin.ext ?_)
    match a with
    | ⟨0, _⟩ =>
      refine (Layout.Tiles.idx_val _ c (ix2 k d) 0).trans ?_
      show c.val * 4096 + k.val = 4096 * c.val + k.val
      omega
    | ⟨1, _⟩ => exact Layout.Tiles.idx_val _ c (ix2 k d) 1

end Cert.KernelIdeal.Talk

end
-- ==== Proof.Ref.lean ====
/-
The reference's value over the extended reals: where every id names a row of the table, row `t` of the result is the table's
row at the `t`-th id. And what the precondition says of the ids.
-/
module

public import proofs.«01_k».proof.Defs
public import proofs.«01_k».proof.Proof.Gen.ReferenceIdeal
public import proofs.«01_k».proof.Proof.Gen.ReferenceIdeal.Run
public import Idealize.ShloMosaic.Lib.StableHlo.Predicate
public import Idealize.ShloMosaic.Lib.ReduceAll
public import Idealize.ShloMosaic.Lib.ValueIdxCore

@[expose] public section

noncomputable section

namespace Cert.Proof

open Idealize.ShloMosaic
open Idealize.ShloMosaic.ValueIdx

/-- The precondition's side conditions, for one device's blocks. -/
instance preK : Cert.Pre_ids_in_range_KernelIdeal.Facts := ⟨by decide, by decide, by decide⟩
/-- The precondition's side conditions, for the whole arrays. -/
instance preR : Cert.Pre_ids_in_range_ReferenceIdeal.Facts := ⟨by decide, by decide, by decide⟩

/-- A word that is not negative and is below 32768, both signed, is below 32768. -/
theorem word_lt (w : BitVec 32) (h0 : IntOp.cmpi .sge w 0#32 = 1#1) (h1 : IntOp.cmpi .slt w 32768#32 = 1#1) : w.toNat < 32768 := by
  change BitVec.ofBool (BitVec.sle 0#32 w) = 1#1 at h0
  change BitVec.ofBool (BitVec.slt w 32768#32) = 1#1 at h1
  rw [StableHlo.Predicate.ofBool_eq_one_iff] at h0 h1
  simp only [decide_eq_true_eq, BitVec.slt_iff_toInt_lt, BitVec.sle_iff_toInt_le] at h0 h1
  have e : (32768#32 : BitVec 32).toInt = 32768 := by decide
  have e0 : (0#32 : BitVec 32).toInt = 0 := by decide
  rw [e] at h1
  rw [e0] at h0
  rw [BitVec.toInt_eq_toNat_cond] at h0 h1
  split at h1 <;> omega

/-- The precondition says that every id is below 32768. -/
theorem ids_lt (ids : IVec ⟨1, ![512]⟩ 32) (E : FVec Ideal ⟨2, ![4096, 512]⟩ .bf16)
    (h : Cert.Pre_ids_in_range_KernelIdeal.fn (F := Ideal) ids E = fun _ => 1#1) (t : Fin 512) : (ids (ix1 t)).toNat < 32768 := by
  have e := congrFun h ix0
  unfold Cert.Pre_ids_in_range_KernelIdeal.fn at e
  haveI : Subsingleton (Cert.Pre_ids_in_range_KernelIdeal.S_).Idx := ⟨fun a b => funext fun d => d.elim0⟩
  have q := Host.reduce_andi_all _ _ _ _ _ e (ix1 t)
  obtain ⟨h0, h1⟩ := IntOp.andi_eq_one.1 q
  exact word_lt _ h0 h1

end Cert.Proof

namespace Cert.ReferenceIdeal.Value

open Cert.ReferenceIdeal Cert.ReferenceIdeal.Gen
open Idealize.ShloMosaic
open Idealize.ShloMosaic.ValueIdx

/-- The gather of rows, read at an index: the table's row at the start index, clamped into the table. -/
theorem gather_rows (E : FVec Ideal S32768x512 .bf16) (idx : IVec S512x1 32) (t d : Fin 512) :
    Host.gather gather_S32768x512_S512x1_S512x512_1_0_n_n_0_1_1512 E idx (ix2 t d)
      = E (ix2 ⟨min (idx (ix2 t 0)).toInt.toNat 32767, by omega⟩ d) := by
  unfold Host.gather
  refine congrArg E (funext fun a => Fin.ext ?_)
  match a with
  | ⟨0, _⟩ =>
    show min (idx (GatherDims.siIdx _ (ix2 t d) _)).toInt.toNat 32767 + 0 + 0 = min (idx (ix2 t 0)).toInt.toNat 32767
    refine congrArg (fun i => min (idx i).toInt.toNat 32767) (funext fun b => Fin.ext ?_)
    match b with
    | ⟨0, _⟩ => rfl
    | ⟨1, _⟩ => rfl
  | ⟨1, _⟩ => exact (Nat.zero_add _).trans rfl

/-- The reference's result, as its operations compose it. -/
def refV (ids : IVec S512 32) (E : FVec Ideal S32768x512 .bf16) : FVec Ideal S512x512 .f32 :=
  extf .f32 (Host.gather gather_S32768x512_S512x1_S512x512_1_0_n_n_0_1_1512 E (broadcastInDim S512x1 ![0] bcast_S512_S512x1_0
    (select (cmpi .slt ids (broadcastInDim S512 ![] bcast_S_S512 (constantI S_ 32 0#32)))
      (addi ids (broadcastInDim S512 ![] bcast_S_S512 (constantI S_ 32 32768#32))) ids))) bitsLt_bf16_f32

/-- **Where an id names a row of the table, the result's row is that row.** -/
theorem refV_apply (ids : IVec S512 32) (E : FVec Ideal S32768x512 .bf16) (t d : Fin 512) (h : (ids (ix1 t)).toNat < 32768) :
    refV ids E (ix2 t d) = E (ix2 ⟨(ids (ix1 t)).toNat, h⟩ d) := by
  unfold refV
  refine (gather_rows E _ t d).trans ?_
  have hs : IntOp.cmpi .slt (ids (ix1 t)) 0#32 ≠ 1#1 := by
    change BitVec.ofBool (BitVec.slt (ids (ix1 t)) 0#32) ≠ 1#1
    rw [Ne, StableHlo.Predicate.ofBool_eq_one_iff]
    simp only [decide_eq_true_eq, BitVec.slt_iff_toInt_lt]
    rw [BitVec.toInt_eq_toNat_of_lt (by omega)]
    have e0 : (0#32 : BitVec 32).toInt = 0 := by decide
    omega
  have hb : broadcastInDim S512x1 ![0] bcast_S512_S512x1_0
      (select (cmpi .slt ids (broadcastInDim S512 ![] bcast_S_S512 (constantI S_ 32 0#32)))
        (addi ids (broadcastInDim S512 ![] bcast_S_S512 (constantI S_ 32 32768#32))) ids) (ix2 t 0) = ids (ix1 t) := by
    refine Eq.trans (b := Scalar.select (IntOp.cmpi .slt (ids (ix1 t)) 0#32) (ids (ix1 t) + 32768#32) (ids (ix1 t))) ?_ ?_
    · refine congrArg (select (cmpi .slt ids (broadcastInDim S512 ![] bcast_S_S512 (constantI S_ 32 0#32)))
        (addi ids (broadcastInDim S512 ![] bcast_S_S512 (constantI S_ 32 32768#32))) ids) (funext fun a => Fin.ext ?_)
      match a with
      | ⟨0, _⟩ => rfl
    · rw [eq_zero_of_ne_one hs, select_zero]
  refine congrArg (fun k => E (ix2 k d)) (Fin.ext ((congrArg (fun w : BitVec 32 => min w.toInt.toNat 32767) hb).trans ?_))
  show min (ids (ix1 t)).toInt.toNat 32767 = (ids (ix1 t)).toNat
  rw [BitVec.toInt_eq_toNat_of_lt (by omega)]
  omega

end Cert.ReferenceIdeal.Value

end
-- ==== Proof.Same.lean ====
/-
The kernel and its idealization are one text: the tables of their bodies are equal, at any float values.
-/
module

public import proofs.«01_k».proof.Defs
public import proofs.«01_k».proof.Proof.Gen.Kernel
public import proofs.«01_k».proof.Proof.Gen.KernelIdeal

@[expose] public section

namespace Cert.Proof

open Idealize.ShloMosaic

variable {F : FTy → Type} [FloatOps F]

/-- The two bodies are the same program. -/
theorem body_same : (Cert.Kernel.cc0_body (F := F)) = (Cert.KernelIdeal.cc0_body (F := F)) := rfl

/-- The tables of bodies agree: there is one label, and at it the two bodies. -/
theorem defs₀_same : (Cert.Kernel.defs₀ (F := F)) = (Cert.KernelIdeal.defs₀ (F := F)) := by
  unfold Cert.Kernel.defs₀ Cert.KernelIdeal.defs₀
  refine congrArg Defs.onTc (funext fun l => funext fun a => ?_)
  obtain ⟨l, hl⟩ := l
  match l, hl, a with
  | 0, _, (t, s) => exact rfl

/-- So do the tables with the pipelines' own labels. -/
theorem defs_same : (Cert.Kernel.defs (F := F)) = (Cert.KernelIdeal.defs (F := F)) :=
  congrArg (Pipeline.defs Cert.KernelIdeal.pcfgs) defs₀_same

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Inputs
public import proofs.«01_k».proof.Proof.Ref
public import proofs.«01_k».proof.Proof.Same
public import Idealize.ShloMosaic.Adequacy
public import Idealize.ShloMosaic.Init

@[expose] public section

noncomputable section

namespace Cert.Proof

open Idealize.ShloMosaic hiding ix1 eq_ix1 ix2 eq_ix2
open Idealize.ShloMosaic.ValueIdx Idealize.SL.Sem

/-- The kernel's run at the chip's own floats ends with the arguments unchanged and every counter at zero. Its text is the
    idealized kernel's, whose run is proved for any float values. -/
theorem frame_kernel : Cert.quiescent_Kernel := by
  intro m ρ _
  have h := (θ_run (Cert.KernelIdeal.defs (F := Bits)) _ _).mono
    (fun (r : _) h => (⟨fun c => ⟨(h.1 c).1, (h.1 c).2.1⟩, h.2⟩ :
      (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0))
    (Cert.KernelIdeal.Talk.run_main (F := Bits) m ρ)
  rw [defs_same]
  exact h

/-- The idealized kernel's run likewise. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Talk.run_main (F := Ideal) m ρ)

/-- The reference's run ends with the arguments unchanged; it declares no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- **The kernel computes the reference over the extended reals, where every id names a row**: every device's result is the
    reference's, entry for entry. -/
theorem algebraic : Cert.algebraic_KernelIdeal_ReferenceIdeal_pre_ids_in_range_KernelIdeal := by
  intro m ρ m' ρ' hpre hagree
  have hlt : ∀ t : Fin 512, (m' (((0 : Dev Cert.ReferenceIdeal.nD).tc : Thread _ Cert.ReferenceIdeal.τ).loc Cert.ReferenceIdeal.main_arg0) (ix1 t)).toNat < 32768 := by
    intro t
    have h := ids_lt _ _ (hpre 0) t
    rw [(hagree 0).1] at h
    exact h
  have H := Cert.KernelIdeal.Talk.held m _ _ (fun c => (hagree c).1) hlt (fun c => (hagree c).2)
  refine ⟨Cert.ReferenceIdeal.Value.refV
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩)
      (Cert.KernelIdeal.Talk.run_main (F := Ideal) m ρ)
    funext i
    rw [eq_ix2 i]
    refine (Cert.KernelIdeal.Talk.outV_apply H c (i 0) (i 1)).trans ?_
    refine Eq.trans ?_ (Cert.ReferenceIdeal.Value.refV_apply _ _ (i 0) (i 1) (hlt (i 0))).symm
    exact congrArg (fun k => m' (((0 : Dev Cert.ReferenceIdeal.nD).tc : Thread _ Cert.ReferenceIdeal.τ).loc Cert.ReferenceIdeal.main_arg1) (ix2 k (i 1)))
      (Fin.ext (congrArg BitVec.toNat (Cert.KernelIdeal.Talk.col_apply _ (i 0))))
  · exact (θ_run Cert.ReferenceIdeal.defs _ _).mono (fun r h => h 0) (Cert.ReferenceIdeal.Value.run (F := Ideal) m' ρ')

/-- The certificate. -/
theorem claim : Cert.Claim :=
  ⟨Cert.Kernel.Gen.facts, Cert.KernelIdeal.Gen.facts, Cert.ReferenceIdeal.Gen.facts, preK, preR,
    frame_kernel, frame_ideal, fun m ρ _ => frame_ideal m ρ trivial, frame_reference, fun m ρ _ => frame_reference m ρ trivial,
    trivial, algebraic⟩

end Cert.Proof

end
